-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_AttnRefIdeal_pre_finite [hKernelIdeal : Cert.KernelIdeal.Facts] [hAttnRefIdeal : Cert.AttnRefIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_KernelIdeal_finite m →
    (∀ c : Dev Cert.KernelIdeal.nD,
      m' ((c.tc : Thread Cert.AttnRefIdeal.nD Cert.AttnRefIdeal.τ).loc Cert.AttnRefIdeal.main_arg0) = m ((c.tc : Thread Cert.KernelIdeal.nD Cert.KernelIdeal.τ).loc Cert.KernelIdeal.main_arg0)
      ∧ m' ((c.tc : Thread Cert.AttnRefIdeal.nD Cert.AttnRefIdeal.τ).loc Cert.AttnRefIdeal.main_arg1) = m ((c.tc : Thread Cert.KernelIdeal.nD Cert.KernelIdeal.τ).loc Cert.KernelIdeal.main_arg1)
      ∧ m' ((c.tc : Thread Cert.AttnRefIdeal.nD Cert.AttnRefIdeal.τ).loc Cert.AttnRefIdeal.main_arg2) = m ((c.tc : Thread Cert.KernelIdeal.nD Cert.KernelIdeal.τ).loc Cert.KernelIdeal.main_arg2)
      ∧ m' ((c.tc : Thread Cert.AttnRefIdeal.nD Cert.AttnRefIdeal.τ).loc Cert.AttnRefIdeal.main_arg3) = m ((c.tc : Thread Cert.KernelIdeal.nD Cert.KernelIdeal.τ).loc Cert.KernelIdeal.main_arg3)
      ∧ m' ((c.tc : Thread Cert.AttnRefIdeal.nD Cert.AttnRefIdeal.τ).loc Cert.AttnRefIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v71) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v13_0)) (v1 : (c : Dev Cert.MixIdeal.nD) → Buf (Elt Ideal) ((c.tc : Thread Cert.MixIdeal.nD Cert.MixIdeal.τ).loc Cert.MixIdeal.main_v13_1)) (v2 : (c : Dev Cert.MixIdeal.nD) → Buf (Elt Ideal) ((c.tc : Thread Cert.MixIdeal.nD Cert.MixIdeal.τ).loc Cert.MixIdeal.main_v13_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v13_0) = v0 c
          ∧ r.2.mem ((c.tc : Thread Cert.MixIdeal.nD Cert.MixIdeal.τ).loc Cert.MixIdeal.main_v13_1) = v1 c
          ∧ r.2.mem ((c.tc : Thread Cert.MixIdeal.nD Cert.MixIdeal.τ).loc Cert.MixIdeal.main_v13_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v31) = v0 c
          ∧ r.2.mem ((c.tc : Thread Cert.MixRefIdeal.nD Cert.MixRefIdeal.τ).loc Cert.MixRefIdeal.main_v53) = v1 c
          ∧ r.2.mem ((c.tc : Thread Cert.MixRefIdeal.nD Cert.MixRefIdeal.τ).loc Cert.MixRefIdeal.main_v55) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v41_0)) (v1 : (c : Dev Cert.ProjIdeal.nD) → Buf (Elt Ideal) ((c.tc : Thread Cert.ProjIdeal.nD Cert.ProjIdeal.τ).loc Cert.ProjIdeal.main_v41_1)) (v2 : (c : Dev Cert.ProjIdeal.nD) → Buf (Elt Ideal) ((c.tc : Thread Cert.ProjIdeal.nD Cert.ProjIdeal.τ).loc Cert.ProjIdeal.main_v41_2)) (v3 : (c : Dev Cert.ProjIdeal.nD) → Buf (Elt Ideal) ((c.tc : Thread Cert.ProjIdeal.nD Cert.ProjIdeal.τ).loc Cert.ProjIdeal.main_v41_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v41_0) = v0 c
          ∧ r.2.mem ((c.tc : Thread Cert.ProjIdeal.nD Cert.ProjIdeal.τ).loc Cert.ProjIdeal.main_v41_1) = v1 c
          ∧ r.2.mem ((c.tc : Thread Cert.ProjIdeal.nD Cert.ProjIdeal.τ).loc Cert.ProjIdeal.main_v41_2) = v2 c
          ∧ r.2.mem ((c.tc : Thread Cert.ProjIdeal.nD Cert.ProjIdeal.τ).loc Cert.ProjIdeal.main_v41_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v130) = v0 c
          ∧ r.2.mem ((c.tc : Thread Cert.ProjRefIdeal.nD Cert.ProjRefIdeal.τ).loc Cert.ProjRefIdeal.main_v133) = v1 c
          ∧ r.2.mem ((c.tc : Thread Cert.ProjRefIdeal.nD Cert.ProjRefIdeal.τ).loc Cert.ProjRefIdeal.main_v134) = v2 c
          ∧ r.2.mem ((c.tc : Thread Cert.ProjRefIdeal.nD Cert.ProjRefIdeal.τ).loc Cert.ProjRefIdeal.main_v137) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def Claim : Prop :=
  ∃ (hKernel : Cert.Kernel.Facts) (hKernelIdeal : Cert.KernelIdeal.Facts) (hAttnRefIdeal : Cert.AttnRefIdeal.Facts) (hMix : Cert.Mix.Facts) (hMixIdeal : Cert.MixIdeal.Facts) (hMixRefIdeal : Cert.MixRefIdeal.Facts) (hProj : Cert.Proj.Facts) (hProjIdeal : Cert.ProjIdeal.Facts) (hProjRefIdeal : Cert.ProjRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Mix (hMix := hMix)
    ∧ quiescent_MixIdeal (hMixIdeal := hMixIdeal)
    ∧ quiescent_MixRefIdeal (hMixRefIdeal := hMixRefIdeal)
    ∧ quiescent_Proj (hProj := hProj)
    ∧ quiescent_ProjIdeal (hProjIdeal := hProjIdeal)
    ∧ quiescent_ProjRefIdeal (hProjRefIdeal := hProjRefIdeal)
    ∧ preserves_Kernel_KernelIdeal
    ∧ algebraic_KernelIdeal_AttnRefIdeal_pre_finite (hKernelIdeal := hKernelIdeal) (hAttnRefIdeal := hAttnRefIdeal) (hPre_finite := hPre_finite)
    ∧ preserves_Mix_MixIdeal
    ∧ algebraic_MixIdeal_MixRefIdeal (hMixIdeal := hMixIdeal) (hMixRefIdeal := hMixRefIdeal)
    ∧ preserves_Proj_ProjIdeal
    ∧ algebraic_ProjIdeal_ProjRefIdeal (hProjIdeal := hProjIdeal) (hProjRefIdeal := hProjRefIdeal)
-- ==== Pre_finite.lean ====
abbrev S16384x512 : Shape := ⟨2, ![16384, 512]⟩
abbrev S16384x256 : Shape := ⟨2, ![16384, 256]⟩
abbrev S16384x1024 : Shape := ⟨2, ![16384, 1024]⟩
abbrev S1x8 : Shape := ⟨2, ![1, 8]⟩
abbrev S_ : Shape := ⟨0, ![]⟩
abbrev S16384x128 : Shape := ⟨2, ![16384, 128]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  slices_S16384x256_S16384x128_0_0 : S16384x256.Slices ![0, 0] S16384x128
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S16384x512 .f32) (main_arg1 : FVec F S16384x256 .f32) (main_arg2 : FVec F S16384x512 .f32) (main_arg3 : FVec F S16384x1024 .f32) (main_arg4 : FVec F S1x8 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x128 .f32 := (extractStridedSlice S16384x128 ![0, 0] · slices_S16384x256_S16384x128_0_0) main_arg1
  let main_v5 : FVec F S16384x128 .f32 := Host.absf main_v4
  let main_cst_0 : FVec F S_ .f32 := constant S_ .f32 0x7F800000#32
  let main_v6 : FVec F S16384x128 .f32 := broadcastInDim S16384x128 ![] bcast_S_S16384x128 main_cst_0
  let main_v7 : IVec S16384x128 1 := cmpf .olt main_v5 main_v6
  let main_c_1 : IVec S_ 1 := constantI S_ 1 1#1
  let main_v8 : IVec S_ 1 := (fun x v => Host.reduce IntOp.andi x v reducesTo_S16384x128_S_d0_1 h_S_) main_v7 main_c_1
  let main_v9 : IVec S_ 1 := andi main_v3 main_v8
  main_v9
-- ==== Kernel.lean ====
abbrev S16384x512 : Shape := ⟨2, ![16384, 512]⟩
abbrev S16384x256 : Shape := ⟨2, ![16384, 256]⟩
abbrev S16384x1024 : Shape := ⟨2, ![16384, 1024]⟩
abbrev S1x8 : Shape := ⟨2, ![1, 8]⟩
abbrev S8 : Shape := ⟨1, ![8]⟩
abbrev S8x64 : Shape := ⟨2, ![8, 64]⟩
abbrev S512 : Shape := ⟨1, ![512]⟩
abbrev S1x512 : Shape := ⟨2, ![1, 512]⟩
abbrev S2x8192x512 : Shape := ⟨3, ![2, 8192, 512]⟩
abbrev S2x8192x256 : Shape := ⟨3, ![2, 8192, 256]⟩
abbrev S2x8192x1024 : Shape := ⟨3, ![2, 8192, 1024]⟩
abbrev S1x2048x128 : Shape := ⟨3, ![1, 2048, 128]⟩
abbrev S1x2048x256 : Shape := ⟨3, ![1, 2048, 256]⟩
abbrev S1x128 : Shape := ⟨2, ![1, 128]⟩
abbrev S4096x256 : Shape := ⟨2, ![4096, 256]⟩
abbrev S4096x128 : Shape := ⟨2, ![4096, 128]⟩
abbrev S3x2048x128 : Shape := ⟨3, ![3, 2048, 128]⟩
abbrev S2x128x256 : Shape := ⟨3, ![2, 128, 256]⟩
abbrev S128x256 : Shape := ⟨2, ![128, 256]⟩
abbrev S1x128x256 : Shape := ⟨3, ![1, 128, 256]⟩
abbrev S2048x256 : Shape := ⟨2, ![2048, 256]⟩
abbrev S2048x128 : Shape := ⟨2, ![2048, 128]⟩
abbrev S1x128x128 : Shape := ⟨3, ![1, 128, 128]⟩
abbrev S128x128 : Shape := ⟨2, ![128, 128]⟩
abbrev S256x256 : Shape := ⟨2, ![256, 256]⟩
abbrev S256x128 : Shape := ⟨2, ![256, 128]⟩
abbrev S128 : Shape := ⟨1, ![128]⟩
abbrev S128x1 : Shape := ⟨2, ![128, 1]⟩

abbrev nBuf : Space → Nat
  | .hbm => 15
  | .vmem => 28
  | .smem => 0
  | _ => 0

abbrev bufTy : (tb : Table) → Fin (tcTables nBuf tb) → BufTy
  | .hbm, ⟨0, _⟩ => ⟨S16384x512, .f32⟩
  | .hbm, ⟨1, _⟩ => ⟨S16384x256, .f32⟩
  | .hbm, ⟨2, _⟩ => ⟨S16384x512, .f32⟩
  | .hbm, ⟨3, _⟩ => ⟨S16384x1024, .f32⟩
  | .hbm, ⟨4, _⟩ => ⟨S1x8, .f32⟩
  | .hbm, ⟨5, _⟩ => ⟨S8, .f32⟩
  | .hbm, ⟨6, _⟩ => ⟨S8x64, .f32⟩
  | .hbm, ⟨7, _⟩ => ⟨S512, .f32⟩
  | .hbm, ⟨8, _⟩ => ⟨S1x512, .f32⟩
  | .hbm, ⟨9, _⟩ => ⟨S2x8192x512, .f32⟩
  | .hbm, ⟨10, _⟩ => ⟨S2x8192x256, .f32⟩
  | .hbm, ⟨11, _⟩ => ⟨S2x8192x512, .f32⟩
  | .hbm, ⟨12, _⟩ => ⟨S2x8192x1024, .f32⟩
  | .hbm, ⟨13, _⟩ => ⟨S2x8192x512, .f32⟩
  | .hbm, ⟨14, _⟩ => ⟨S2x8192x512, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x128, .f32⟩
  | .local _ .vmem, ⟨17, _⟩ => ⟨S1x128, .f32⟩
  | .local _ .vmem, ⟨18, _⟩ => ⟨S1x2048x128, .f32⟩
  | .local _ .vmem, ⟨19, _⟩ => ⟨S1x2048x128, .f32⟩
  | .local _ .vmem, ⟨20, _⟩ => ⟨S1x2048x128, .f32⟩
  | .local _ .vmem, ⟨21, _⟩ => ⟨S1x2048x128, .f32⟩
  | .local _ .vmem, ⟨22, _⟩ => ⟨S4096x256, .f32⟩
  | .local _ .vmem, ⟨23, _⟩ => ⟨S4096x128, .f32⟩
  | .local _ .vmem, ⟨24, _⟩ => ⟨S4096x128, .f32⟩
  | .local _ .vmem, ⟨25, _⟩ => ⟨S3x2048x128, .f32⟩
  | .local _ .vmem, ⟨26, _⟩ => ⟨S3x2048x128, .f32⟩
  | .local _ .vmem, ⟨27, _⟩ => ⟨S2x128x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 4, 4], ![false, false, false]⟩

@[reducible] def k0_t1_loop : Scf.Loop 32 :=
  let c0_i32_52 : BitVec 32 := 0#32
  let c16_i32 : BitVec 32 := 16#32
  let v97 : BitVec 32 := Scalar.addi c0_i32_52 c16_i32
  let c1_i32_53 : BitVec 32 := 1#32
  ⟨c0_i32_52, v97, c1_i32_53⟩
def k0_mult1 (k0_t1 : Fin k0_t1_loop.trips) : BitVec 32 :=
  let c0_i32_52 : BitVec 32 := 0#32
  let c1_i32_53 : BitVec 32 := 1#32
  let arg20 : BitVec 32 := Scf.iv c0_i32_52 c1_i32_53 k0_t1
  let c128_i32_75 : BitVec 32 := 128#32
  let v131 : BitVec 32 := Scalar.muli arg20 c128_i32_75
  v131
def k0_off1 (i : grid0.Coords) (k0_t1 : Fin k0_t1_loop.trips) : Fin 3 → Nat :=
  let arg2 : BitVec 32 := BitVec.ofNat 32 (i 2).val
  let c0_i32_76 : BitVec 32 := 0#32
  let v133 : BitVec 1 := Scalar.cmpi .sgt arg2 c0_i32_76
  let c0_i32_52 : BitVec 32 := 0#32
  let c1_i32_53 : BitVec 32 := 1#32
  let arg20 : BitVec 32 := Scf.iv c0_i32_52 c1_i32_53 k0_t1
  let c0_i32_77 : BitVec 32 := 0#32
  let v134 : BitVec 1 := Scalar.cmpi .sgt arg20 c0_i32_77
  let v135 : BitVec 1 := Scalar.ori v133 v134
  let v136 : BitVec 32 := Scalar.extui v135
  let v137 : Index := Scalar.indexCast v136
  let c0_78 : Index := 0#32
  let c0_79 : Index := 0#32
  ![v137.toNat, 0, 0]
def k0_off2 (k0_t1 : Fin k0_t1_loop.trips) : Fin 3 → Nat :=
  let c0_80 : Index := 0#32
  let c0_i32_52 : BitVec 32 := 0#32
  let c1_i32_53 : BitVec 32 := 1#32
  let arg20 : BitVec 32 := Scf.iv c0_i32_52 c1_i32_53 k0_t1
  let c128_i32_75 : BitVec 32 := 128#32
  let v131 : BitVec 32 := Scalar.muli arg20 c128_i32_75
  let v132 : BitVec 32 := v131
  let v140 : Index := Scalar.indexCast v132
  let c0_81 : Index := 0#32
  ![0, v140.toNat, 0]
def k0_off3 (k0_t1 : Fin k0_t1_loop.trips) : Fin 2 → Nat :=
  let c1920_i32 : BitVec 32 := 1920#32
  let c0_i32_52 : BitVec 32 := 0#32
  let c1_i32_53 : BitVec 32 := 1#32
  let arg20 : BitVec 32 := Scf.iv c0_i32_52 c1_i32_53 k0_t1
  let c128_i32_75 : BitVec 32 := 128#32
  let v131 : BitVec 32 := Scalar.muli arg20 c128_i32_75
  let v132 : BitVec 32 := v131
  let v145 : BitVec 32 := Scalar.addi c1920_i32 v132
  let v146 : Index := Scalar.indexCast v145
  let c0_83 : Index := 0#32
  ![v146.toNat, 0]
def k0_off4 (i : grid0.Coords) (k0_t1 : Fin k0_t1_loop.trips) (c1_i32_107 : BitVec 32) : Fin 3 → Nat :=
  let arg2 : BitVec 32 := BitVec.ofNat 32 (i 2).val
  let c0_i32_121 : BitVec 32 := 0#32
  let v259 : BitVec 1 := Scalar.cmpi .sgt arg2 c0_i32_121
  let c0_i32_52 : BitVec 32 := 0#32
  let c1_i32_53 : BitVec 32 := 1#32
  let arg20 : BitVec 32 := Scf.iv c0_i32_52 c1_i32_53 k0_t1
  let c0_i32_108 : BitVec 32 := 0#32
  let v231 : BitVec 1 := Scalar.cmpi .sgt arg20 c0_i32_108
  let v232 : BitVec 32 := Scalar.extui v231
  let c0_i32_109 : BitVec 32 := 0#32
  let v233 : BitVec 1 := Scalar.cmpi .slt arg20 c0_i32_109
  let v234 : BitVec 32 := Scalar.extui v233
  let v235 : BitVec 32 := Scalar.subi v232 v234
  let c0_i32_110 : BitVec 32 := 0#32
  let v236 : BitVec 1 := Scalar.cmpi .sgt c1_i32_107 c0_i32_110
  let v237 : BitVec 32 := Scalar.extui v236
  let c0_i32_111 : BitVec 32 := 0#32
  let v238 : BitVec 1 := Scalar.cmpi .slt c1_i32_107 c0_i32_111
  let v239 : BitVec 32 := Scalar.extui v238
  let v240 : BitVec 32 := Scalar.subi v237 v239
  let v241 : BitVec 1 := Scalar.cmpi .ne v235 v240
  let v242 : BitVec 32 := Scalar.remsi arg20 c1_i32_107
  let c0_i32_112 : BitVec 32 := 0#32
  let v243 : BitVec 1 := Scalar.cmpi .ne v242 c0_i32_112
  let v244 : BitVec 1 := Scalar.andi v241 v243
  let v230 : BitVec 32 := Scalar.divsi arg20 c1_i32_107
  let c1_i32_113 : BitVec 32 := 1#32
  let v245 : BitVec 32 := Scalar.subi v230 c1_i32_113
  let v246 : BitVec 32 := Scalar.select v244 v245 v230
  let c0_i32_122 : BitVec 32 := 0#32
  let v260 : BitVec 1 := Scalar.cmpi .sgt v246 c0_i32_122
  let v261 : BitVec 1 := Scalar.ori v259 v260
  let v262 : BitVec 32 := Scalar.extui v261
  let v263 : Index := Scalar.indexCast v262
  let c0_123 : Index := 0#32
  let c0_124 : Index := 0#32
  ![v263.toNat, 0, 0]
def k0_off4_at (r : Fin 3) : BitVec 32 :=
  if r.val < 1 then
    1#32
  else
    if r.val < 2 then
      4#32
    else
      16#32
def k0_mult2 (k0_t1 : Fin k0_t1_loop.trips) : BitVec 32 :=
  let c0_i32_52 : BitVec 32 := 0#32
  let c1_i32_53 : BitVec 32 := 1#32
  let arg20 : BitVec 32 := Scf.iv c0_i32_52 c1_i32_53 k0_t1
  let c0_i32_108 : BitVec 32 := 0#32
  let v231 : BitVec 1 := Scalar.cmpi .sgt arg20 c0_i32_108
  let v232 : BitVec 32 := Scalar.extui v231
  let c0_i32_109 : BitVec 32 := 0#32
  let v233 : BitVec 1 := Scalar.cmpi .slt arg20 c0_i32_109
  let v234 : BitVec 32 := Scalar.extui v233
  let v235 : BitVec 32 := Scalar.subi v232 v234
  let c1_i32_107 : BitVec 32 := 1#32
  let c0_i32_110 : BitVec 32 := 0#32
  let v236 : BitVec 1 := Scalar.cmpi .sgt c1_i32_107 c0_i32_110
  let v237 : BitVec 32 := Scalar.extui v236
  let c0_i32_111 : BitVec 32 := 0#32
  let v238 : BitVec 1 := Scalar.cmpi .slt c1_i32_107 c0_i32_111
  let v239 : BitVec 32 := Scalar.extui v238
  let v240 : BitVec 32 := Scalar.subi v237 v239
  let v241 : BitVec 1 := Scalar.cmpi .ne v235 v240
  let v242 : BitVec 32 := Scalar.remsi arg20 c1_i32_107
  let c0_i32_112 : BitVec 32 := 0#32
  let v243 : BitVec 1 := Scalar.cmpi .ne v242 c0_i32_112
  let v244 : BitVec 1 := Scalar.andi v241 v243
  let v230 : BitVec 32 := Scalar.divsi arg20 c1_i32_107
  let c1_i32_113 : BitVec 32 := 1#32
  let v245 : BitVec 32 := Scalar.subi v230 c1_i32_113
  let v246 : BitVec 32 := Scalar.select v244 v245 v230
  let c128_i32_120 : BitVec 32 := 128#32
  let v257 : BitVec 32 := Scalar.muli v246 c128_i32_120
  let c1_i32_114 : BitVec 32 := 1#32
  let c0_i32_115 : BitVec 32 := 0#32
  let v247 : BitVec 1 := Scalar.cmpi .eq c1_i32_114 c0_i32_115
  let c1_i32_116 : BitVec 32 := 1#32
  let v248 : BitVec 32 := Scalar.select v247 c1_i32_116 c1_i32_114
  let v249 : BitVec 32 := Scalar.remsi arg20 v248
  let c0_i32_118 : BitVec 32 := 0#32
  let v251 : BitVec 1 := Scalar.cmpi .slt v249 c0_i32_118
  let c0_i32_119 : BitVec 32 := 0#32
  let v252 : BitVec 1 := Scalar.cmpi .slt v248 c0_i32_119
  let v253 : BitVec 1 := Scalar.xori v251 v252
  let c0_i32_117 : BitVec 32 := 0#32
  let v250 : BitVec 1 := Scalar.cmpi .ne v249 c0_i32_117
  let v254 : BitVec 1 := Scalar.andi v253 v250
  let v255 : BitVec 32 := Scalar.addi v249 v248
  let v256 : BitVec 32 := Scalar.select v254 v255 v249
  let v258 : BitVec 32 := Scalar.addi v257 v256
  v258
def k0_off5 (k0_t1 : Fin k0_t1_loop.trips) : Fin 3 → Nat :=
  let c0_125 : Index := 0#32
  let c0_i32_52 : BitVec 32 := 0#32
  let c1_i32_53 : BitVec 32 := 1#32
  let arg20 : BitVec 32 := Scf.iv c0_i32_52 c1_i32_53 k0_t1
  let c0_i32_108 : BitVec 32 := 0#32
  let v231 : BitVec 1 := Scalar.cmpi .sgt arg20 c0_i32_108
  let v232 : BitVec 32 := Scalar.extui v231
  let c0_i32_109 : BitVec 32 := 0#32
  let v233 : BitVec 1 := Scalar.cmpi .slt arg20 c0_i32_109
  let v234 : BitVec 32 := Scalar.extui v233
  let v235 : BitVec 32 := Scalar.subi v232 v234
  let c1_i32_107 : BitVec 32 := 1#32
  let c0_i32_110 : BitVec 32 := 0#32
  let v236 : BitVec 1 := Scalar.cmpi .sgt c1_i32_107 c0_i32_110
  let v237 : BitVec 32 := Scalar.extui v236
  let c0_i32_111 : BitVec 32 := 0#32
  let v238 : BitVec 1 := Scalar.cmpi .slt c1_i32_107 c0_i32_111
  let v239 : BitVec 32 := Scalar.extui v238
  let v240 : BitVec 32 := Scalar.subi v237 v239
  let v241 : BitVec 1 := Scalar.cmpi .ne v235 v240
  let v242 : BitVec 32 := Scalar.remsi arg20 c1_i32_107
  let c0_i32_112 : BitVec 32 := 0#32
  let v243 : BitVec 1 := Scalar.cmpi .ne v242 c0_i32_112
  let v244 : BitVec 1 := Scalar.andi v241 v243
  let v230 : BitVec 32 := Scalar.divsi arg20 c1_i32_107
  let c1_i32_113 : BitVec 32 := 1#32
  let v245 : BitVec 32 := Scalar.subi v230 c1_i32_113
  let v246 : BitVec 32 := Scalar.select v244 v245 v230
  let c128_i32_120 : BitVec 32 := 128#32
  let v257 : BitVec 32 := Scalar.muli v246 c128_i32_120
  let c1_i32_114 : BitVec 32 := 1#32
  let c0_i32_115 : BitVec 32 := 0#32
  let v247 : BitVec 1 := Scalar.cmpi .eq c1_i32_114 c0_i32_115
  let c1_i32_116 : BitVec 32 := 1#32
  let v248 : BitVec 32 := Scalar.select v247 c1_i32_116 c1_i32_114
  let v249 : BitVec 32 := Scalar.remsi arg20 v248
  let c0_i32_118 : BitVec 32 := 0#32
  let v251 : BitVec 1 := Scalar.cmpi .slt v249 c0_i32_118
  let c0_i32_119 : BitVec 32 := 0#32
  let v252 : BitVec 1 := Scalar.cmpi .slt v248 c0_i32_119
  let v253 : BitVec 1 := Scalar.xori v251 v252
  let c0_i32_117 : BitVec 32 := 0#32
  let v250 : BitVec 1 := Scalar.cmpi .ne v249 c0_i32_117
  let v254 : BitVec 1 := Scalar.andi v253 v250
  let v255 : BitVec 32 := Scalar.addi v249 v248
  let v256 : BitVec 32 := Scalar.select v254 v255 v249
  let v258 : BitVec 32 := Scalar.addi v257 v256
  let v266 : BitVec 32 := v258
  let v267 : Index := Scalar.indexCast v266
  let c0_126 : Index := 0#32
  ![0, v267.toNat, 0]
def k0_mult3 (k0_t1 : Fin k0_t1_loop.trips) : BitVec 32 :=
  let c1920_i32_127 : BitVec 32 := 1920#32
  let c0_i32_52 : BitVec 32 := 0#32
  let c1_i32_53 : BitVec 32 := 1#32
  let arg20 : BitVec 32 := Scf.iv c0_i32_52 c1_i32_53 k0_t1
  let c0_i32_108 : BitVec 32 := 0#32
  let v231 : BitVec 1 := Scalar.cmpi .sgt arg20 c0_i32_108
  let v232 : BitVec 32 := Scalar.extui v231
  let c0_i32_109 : BitVec 32 := 0#32
  let v233 : BitVec 1 := Scalar.cmpi .slt arg20 c0_i32_109
  let v234 : BitVec 32 := Scalar.extui v233
  let v235 : BitVec 32 := Scalar.subi v232 v234
  let c1_i32_107 : BitVec 32 := 1#32
  let c0_i32_110 : BitVec 32 := 0#32
  let v236 : BitVec 1 := Scalar.cmpi .sgt c1_i32_107 c0_i32_110
  let v237 : BitVec 32 := Scalar.extui v236
  let c0_i32_111 : BitVec 32 := 0#32
  let v238 : BitVec 1 := Scalar.cmpi .slt c1_i32_107 c0_i32_111
  let v239 : BitVec 32 := Scalar.extui v238
  let v240 : BitVec 32 := Scalar.subi v237 v239
  let v241 : BitVec 1 := Scalar.cmpi .ne v235 v240
  let v242 : BitVec 32 := Scalar.remsi arg20 c1_i32_107
  let c0_i32_112 : BitVec 32 := 0#32
  let v243 : BitVec 1 := Scalar.cmpi .ne v242 c0_i32_112
  let v244 : BitVec 1 := Scalar.andi v241 v243
  let v230 : BitVec 32 := Scalar.divsi arg20 c1_i32_107
  let c1_i32_113 : BitVec 32 := 1#32
  let v245 : BitVec 32 := Scalar.subi v230 c1_i32_113
  let v246 : BitVec 32 := Scalar.select v244 v245 v230
  let c128_i32_120 : BitVec 32 := 128#32
  let v257 : BitVec 32 := Scalar.muli v246 c128_i32_120
  let c1_i32_114 : BitVec 32 := 1#32
  let c0_i32_115 : BitVec 32 := 0#32
  let v247 : BitVec 1 := Scalar.cmpi .eq c1_i32_114 c0_i32_115
  let c1_i32_116 : BitVec 32 := 1#32
  let v248 : BitVec 32 := Scalar.select v247 c1_i32_116 c1_i32_114
  let v249 : BitVec 32 := Scalar.remsi arg20 v248
  let c0_i32_118 : BitVec 32 := 0#32
  let v251 : BitVec 1 := Scalar.cmpi .slt v249 c0_i32_118
  let c0_i32_119 : BitVec 32 := 0#32
  let v252 : BitVec 1 := Scalar.cmpi .slt v248 c0_i32_119
  let v253 : BitVec 1 := Scalar.xori v251 v252
  let c0_i32_117 : BitVec 32 := 0#32
  let v250 : BitVec 1 := Scalar.cmpi .ne v249 c0_i32_117
  let v254 : BitVec 1 := Scalar.andi v253 v250
  let v255 : BitVec 32 := Scalar.addi v249 v248
  let v256 : BitVec 32 := Scalar.select v254 v255 v249
  let v258 : BitVec 32 := Scalar.addi v257 v256
  let v270 : BitVec 32 := Scalar.addi c1920_i32_127 v258
  v270
def k0_off6 (k0_t1 : Fin k0_t1_loop.trips) : Fin 2 → Nat :=
  let c1920_i32_127 : BitVec 32 := 1920#32
  let c0_i32_52 : BitVec 32 := 0#32
  let c1_i32_53 : BitVec 32 := 1#32
  let arg20 : BitVec 32 := Scf.iv c0_i32_52 c1_i32_53 k0_t1
  let c0_i32_108 : BitVec 32 := 0#32
  let v231 : BitVec 1 := Scalar.cmpi .sgt arg20 c0_i32_108
  let v232 : BitVec 32 := Scalar.extui v231
  let c0_i32_109 : BitVec 32 := 0#32
  let v233 : BitVec 1 := Scalar.cmpi .slt arg20 c0_i32_109
  let v234 : BitVec 32 := Scalar.extui v233
  let v235 : BitVec 32 := Scalar.subi v232 v234
  let c1_i32_107 : BitVec 32 := 1#32
  let c0_i32_110 : BitVec 32 := 0#32
  let v236 : BitVec 1 := Scalar.cmpi .sgt c1_i32_107 c0_i32_110
  let v237 : BitVec 32 := Scalar.extui v236
  let c0_i32_111 : BitVec 32 := 0#32
  let v238 : BitVec 1 := Scalar.cmpi .slt c1_i32_107 c0_i32_111
  let v239 : BitVec 32 := Scalar.extui v238
  let v240 : BitVec 32 := Scalar.subi v237 v239
  let v241 : BitVec 1 := Scalar.cmpi .ne v235 v240
  let v242 : BitVec 32 := Scalar.remsi arg20 c1_i32_107
  let c0_i32_112 : BitVec 32 := 0#32
  let v243 : BitVec 1 := Scalar.cmpi .ne v242 c0_i32_112
  let v244 : BitVec 1 := Scalar.andi v241 v243
  let v230 : BitVec 32 := Scalar.divsi arg20 c1_i32_107
  let c1_i32_113 : BitVec 32 := 1#32
  let v245 : BitVec 32 := Scalar.subi v230 c1_i32_113
  let v246 : BitVec 32 := Scalar.select v244 v245 v230
  let c128_i32_120 : BitVec 32 := 128#32
  let v257 : BitVec 32 := Scalar.muli v246 c128_i32_120
  let c1_i32_114 : BitVec 32 := 1#32
  let c0_i32_115 : BitVec 32 := 0#32
  let v247 : BitVec 1 := Scalar.cmpi .eq c1_i32_114 c0_i32_115
  let c1_i32_116 : BitVec 32 := 1#32
  let v248 : BitVec 32 := Scalar.select v247 c1_i32_116 c1_i32_114
  let v249 : BitVec 32 := Scalar.remsi arg20 v248
  let c0_i32_118 : BitVec 32 := 0#32
  let v251 : BitVec 1 := Scalar.cmpi .slt v249 c0_i32_118
  let c0_i32_119 : BitVec 32 := 0#32
  let v252 : BitVec 1 := Scalar.cmpi .slt v248 c0_i32_119
  let v253 : BitVec 1 := Scalar.xori v251 v252
  let c0_i32_117 : BitVec 32 := 0#32
  let v250 : BitVec 1 := Scalar.cmpi .ne v249 c0_i32_117
  let v254 : BitVec 1 := Scalar.andi v253 v250
  let v255 : BitVec 32 := Scalar.addi v249 v248
  let v256 : BitVec 32 := Scalar.select v254 v255 v249
  let v258 : BitVec 32 := Scalar.addi v257 v256
  let v270 : BitVec 32 := Scalar.addi c1920_i32_127 v258
  let v271 : BitVec 32 := v270
  let v272 : Index := Scalar.indexCast v271
  let c0_128 : Index := 0#32
  ![v272.toNat, 0]
def k0_mult4 (k0_t1 : Fin k0_t1_loop.trips) : BitVec 32 :=
  let c1920_i32_129 : BitVec 32 := 1920#32
  let c0_i32_52 : BitVec 32 := 0#32
  let c1_i32_53 : BitVec 32 := 1#32
  let arg20 : BitVec 32 := Scf.iv c0_i32_52 c1_i32_53 k0_t1
  let c0_i32_108 : BitVec 32 := 0#32
  let v231 : BitVec 1 := Scalar.cmpi .sgt arg20 c0_i32_108
  let v232 : BitVec 32 := Scalar.extui v231
  let c0_i32_109 : BitVec 32 := 0#32
  let v233 : BitVec 1 := Scalar.cmpi .slt arg20 c0_i32_109
  let v234 : BitVec 32 := Scalar.extui v233
  let v235 : BitVec 32 := Scalar.subi v232 v234
  let c1_i32_107 : BitVec 32 := 1#32
  let c0_i32_110 : BitVec 32 := 0#32
  let v236 : BitVec 1 := Scalar.cmpi .sgt c1_i32_107 c0_i32_110
  let v237 : BitVec 32 := Scalar.extui v236
  let c0_i32_111 : BitVec 32 := 0#32
  let v238 : BitVec 1 := Scalar.cmpi .slt c1_i32_107 c0_i32_111
  let v239 : BitVec 32 := Scalar.extui v238
  let v240 : BitVec 32 := Scalar.subi v237 v239
  let v241 : BitVec 1 := Scalar.cmpi .ne v235 v240
  let v242 : BitVec 32 := Scalar.remsi arg20 c1_i32_107
  let c0_i32_112 : BitVec 32 := 0#32
  let v243 : BitVec 1 := Scalar.cmpi .ne v242 c0_i32_112
  let v244 : BitVec 1 := Scalar.andi v241 v243
  let v230 : BitVec 32 := Scalar.divsi arg20 c1_i32_107
  let c1_i32_113 : BitVec 32 := 1#32
  let v245 : BitVec 32 := Scalar.subi v230 c1_i32_113
  let v246 : BitVec 32 := Scalar.select v244 v245 v230
  let c128_i32_120 : BitVec 32 := 128#32
  let v257 : BitVec 32 := Scalar.muli v246 c128_i32_120
  let c1_i32_114 : BitVec 32 := 1#32
  let c0_i32_115 : BitVec 32 := 0#32
  let v247 : BitVec 1 := Scalar.cmpi .eq c1_i32_114 c0_i32_115
  let c1_i32_116 : BitVec 32 := 1#32
  let v248 : BitVec 32 := Scalar.select v247 c1_i32_116 c1_i32_114
  let v249 : BitVec 32 := Scalar.remsi arg20 v248
  let c0_i32_118 : BitVec 32 := 0#32
  let v251 : BitVec 1 := Scalar.cmpi .slt v249 c0_i32_118
  let c0_i32_119 : BitVec 32 := 0#32
  let v252 : BitVec 1 := Scalar.cmpi .slt v248 c0_i32_119
  let v253 : BitVec 1 := Scalar.xori v251 v252
  let c0_i32_117 : BitVec 32 := 0#32
  let v250 : BitVec 1 := Scalar.cmpi .ne v249 c0_i32_117
  let v254 : BitVec 1 := Scalar.andi v253 v250
  let v255 : BitVec 32 := Scalar.addi v249 v248
  let v256 : BitVec 32 := Scalar.select v254 v255 v249
  let v258 : BitVec 32 := Scalar.addi v257 v256
  let v274 : BitVec 32 := Scalar.addi c1920_i32_129 v258
  v274
def k0_mult5 (k0_t1 : Fin k0_t1_loop.trips) : BitVec 32 :=
  let c0_i32_52 : BitVec 32 := 0#32
  let c1_i32_53 : BitVec 32 := 1#32
  let arg20 : BitVec 32 := Scf.iv c0_i32_52 c1_i32_53 k0_t1
  let c0_i32_108 : BitVec 32 := 0#32
  let v231 : BitVec 1 := Scalar.cmpi .sgt arg20 c0_i32_108
  let v232 : BitVec 32 := Scalar.extui v231
  let c0_i32_109 : BitVec 32 := 0#32
  let v233 : BitVec 1 := Scalar.cmpi .slt arg20 c0_i32_109
  let v234 : BitVec 32 := Scalar.extui v233
  let v235 : BitVec 32 := Scalar.subi v232 v234
  let c1_i32_107 : BitVec 32 := 1#32
  let c0_i32_110 : BitVec 32 := 0#32
  let v236 : BitVec 1 := Scalar.cmpi .sgt c1_i32_107 c0_i32_110
  let v237 : BitVec 32 := Scalar.extui v236
  let c0_i32_111 : BitVec 32 := 0#32
  let v238 : BitVec 1 := Scalar.cmpi .slt c1_i32_107 c0_i32_111
  let v239 : BitVec 32 := Scalar.extui v238
  let v240 : BitVec 32 := Scalar.subi v237 v239
  let v241 : BitVec 1 := Scalar.cmpi .ne v235 v240
  let v242 : BitVec 32 := Scalar.remsi arg20 c1_i32_107
  let c0_i32_112 : BitVec 32 := 0#32
  let v243 : BitVec 1 := Scalar.cmpi .ne v242 c0_i32_112
  let v244 : BitVec 1 := Scalar.andi v241 v243
  let v230 : BitVec 32 := Scalar.divsi arg20 c1_i32_107
  let c1_i32_113 : BitVec 32 := 1#32
  let v245 : BitVec 32 := Scalar.subi v230 c1_i32_113
  let v246 : BitVec 32 := Scalar.select v244 v245 v230
  let c128_i32_120 : BitVec 32 := 128#32
  let v257 : BitVec 32 := Scalar.muli v246 c128_i32_120
  let c1_i32_114 : BitVec 32 := 1#32
  let c0_i32_115 : BitVec 32 := 0#32
  let v247 : BitVec 1 := Scalar.cmpi .eq c1_i32_114 c0_i32_115
  let c1_i32_116 : BitVec 32 := 1#32
  let v248 : BitVec 32 := Scalar.select v247 c1_i32_116 c1_i32_114
  let v249 : BitVec 32 := Scalar.remsi arg20 v248
  let c0_i32_118 : BitVec 32 := 0#32
  let v251 : BitVec 1 := Scalar.cmpi .slt v249 c0_i32_118
  let c0_i32_119 : BitVec 32 := 0#32
  let v252 : BitVec 1 := Scalar.cmpi .slt v248 c0_i32_119
  let v253 : BitVec 1 := Scalar.xori v251 v252
  let c0_i32_117 : BitVec 32 := 0#32
  let v250 : BitVec 1 := Scalar.cmpi .ne v249 c0_i32_117
  let v254 : BitVec 1 := Scalar.andi v253 v250
  let v255 : BitVec 32 := Scalar.addi v249 v248
  let v256 : BitVec 32 := Scalar.select v254 v255 v249
  let v258 : BitVec 32 := Scalar.addi v257 v256
  v258
def k0_off7 (k0_t1 : Fin k0_t1_loop.trips) : Fin 3 → Nat :=
  let c0_149 : Index := 0#32
  let c0_i32_52 : BitVec 32 := 0#32
  let c1_i32_53 : BitVec 32 := 1#32
  let arg20 : BitVec 32 := Scf.iv c0_i32_52 c1_i32_53 k0_t1
  let c0_i32_108 : BitVec 32 := 0#32
  let v231 : BitVec 1 := Scalar.cmpi .sgt arg20 c0_i32_108
  let v232 : BitVec 32 := Scalar.extui v231
  let c0_i32_109 : BitVec 32 := 0#32
  let v233 : BitVec 1 := Scalar.cmpi .slt arg20 c0_i32_109
  let v234 : BitVec 32 := Scalar.extui v233
  let v235 : BitVec 32 := Scalar.subi v232 v234
  let c1_i32_107 : BitVec 32 := 1#32
  let c0_i32_110 : BitVec 32 := 0#32
  let v236 : BitVec 1 := Scalar.cmpi .sgt c1_i32_107 c0_i32_110
  let v237 : BitVec 32 := Scalar.extui v236
  let c0_i32_111 : BitVec 32 := 0#32
  let v238 : BitVec 1 := Scalar.cmpi .slt c1_i32_107 c0_i32_111
  let v239 : BitVec 32 := Scalar.extui v238
  let v240 : BitVec 32 := Scalar.subi v237 v239
  let v241 : BitVec 1 := Scalar.cmpi .ne v235 v240
  let v242 : BitVec 32 := Scalar.remsi arg20 c1_i32_107
  let c0_i32_112 : BitVec 32 := 0#32
  let v243 : BitVec 1 := Scalar.cmpi .ne v242 c0_i32_112
  let v244 : BitVec 1 := Scalar.andi v241 v243
  let v230 : BitVec 32 := Scalar.divsi arg20 c1_i32_107
  let c1_i32_113 : BitVec 32 := 1#32
  let v245 : BitVec 32 := Scalar.subi v230 c1_i32_113
  let v246 : BitVec 32 := Scalar.select v244 v245 v230
  let c128_i32_120 : BitVec 32 := 128#32
  let v257 : BitVec 32 := Scalar.muli v246 c128_i32_120
  let c1_i32_114 : BitVec 32 := 1#32
  let c0_i32_115 : BitVec 32 := 0#32
  let v247 : BitVec 1 := Scalar.cmpi .eq c1_i32_114 c0_i32_115
  let c1_i32_116 : BitVec 32 := 1#32
  let v248 : BitVec 32 := Scalar.select v247 c1_i32_116 c1_i32_114
  let v249 : BitVec 32 := Scalar.remsi arg20 v248
  let c0_i32_118 : BitVec 32 := 0#32
  let v251 : BitVec 1 := Scalar.cmpi .slt v249 c0_i32_118
  let c0_i32_119 : BitVec 32 := 0#32
  let v252 : BitVec 1 := Scalar.cmpi .slt v248 c0_i32_119
  let v253 : BitVec 1 := Scalar.xori v251 v252
  let c0_i32_117 : BitVec 32 := 0#32
  let v250 : BitVec 1 := Scalar.cmpi .ne v249 c0_i32_117
  let v254 : BitVec 1 := Scalar.andi v253 v250
  let v255 : BitVec 32 := Scalar.addi v249 v248
  let v256 : BitVec 32 := Scalar.select v254 v255 v249
  let v258 : BitVec 32 := Scalar.addi v257 v256
  let v352 : BitVec 32 := v258
  let v353 : Index := Scalar.indexCast v352
  let c0_150 : Index := 0#32
  ![0, v353.toNat, 0]
def k0_mult6 (k0_t1 : Fin k0_t1_loop.trips) : BitVec 32 :=
  let c0_i32_52 : BitVec 32 := 0#32
  let c1_i32_53 : BitVec 32 := 1#32
  let arg20 : BitVec 32 := Scf.iv c0_i32_52 c1_i32_53 k0_t1
  let c0_i32_108 : BitVec 32 := 0#32
  let v231 : BitVec 1 := Scalar.cmpi .sgt arg20 c0_i32_108
  let v232 : BitVec 32 := Scalar.extui v231
  let c0_i32_109 : BitVec 32 := 0#32
  let v233 : BitVec 1 := Scalar.cmpi .slt arg20 c0_i32_109
  let v234 : BitVec 32 := Scalar.extui v233
  let v235 : BitVec 32 := Scalar.subi v232 v234
  let c1_i32_107 : BitVec 32 := 1#32
  let c0_i32_110 : BitVec 32 := 0#32
  let v236 : BitVec 1 := Scalar.cmpi .sgt c1_i32_107 c0_i32_110
  let v237 : BitVec 32 := Scalar.extui v236
  let c0_i32_111 : BitVec 32 := 0#32
  let v238 : BitVec 1 := Scalar.cmpi .slt c1_i32_107 c0_i32_111
  let v239 : BitVec 32 := Scalar.extui v238
  let v240 : BitVec 32 := Scalar.subi v237 v239
  let v241 : BitVec 1 := Scalar.cmpi .ne v235 v240
  let v242 : BitVec 32 := Scalar.remsi arg20 c1_i32_107
  let c0_i32_112 : BitVec 32 := 0#32
  let v243 : BitVec 1 := Scalar.cmpi .ne v242 c0_i32_112
  let v244 : BitVec 1 := Scalar.andi v241 v243
  let v230 : BitVec 32 := Scalar.divsi arg20 c1_i32_107
  let c1_i32_113 : BitVec 32 := 1#32
  let v245 : BitVec 32 := Scalar.subi v230 c1_i32_113
  let v246 : BitVec 32 := Scalar.select v244 v245 v230
  let c128_i32_120 : BitVec 32 := 128#32
  let v257 : BitVec 32 := Scalar.muli v246 c128_i32_120
  let c1_i32_114 : BitVec 32 := 1#32
  let c0_i32_115 : BitVec 32 := 0#32
  let v247 : BitVec 1 := Scalar.cmpi .eq c1_i32_114 c0_i32_115
  let c1_i32_116 : BitVec 32 := 1#32
  let v248 : BitVec 32 := Scalar.select v247 c1_i32_116 c1_i32_114
  let v249 : BitVec 32 := Scalar.remsi arg20 v248
  let c0_i32_118 : BitVec 32 := 0#32
  let v251 : BitVec 1 := Scalar.cmpi .slt v249 c0_i32_118
  let c0_i32_119 : BitVec 32 := 0#32
  let v252 : BitVec 1 := Scalar.cmpi .slt v248 c0_i32_119
  let v253 : BitVec 1 := Scalar.xori v251 v252
  let c0_i32_117 : BitVec 32 := 0#32
  let v250 : BitVec 1 := Scalar.cmpi .ne v249 c0_i32_117
  let v254 : BitVec 1 := Scalar.andi v253 v250
  let v255 : BitVec 32 := Scalar.addi v249 v248
  let v256 : BitVec 32 := Scalar.select v254 v255 v249
  let v258 : BitVec 32 := Scalar.addi v257 v256
  v258
def k0_off8 (k0_t1 : Fin k0_t1_loop.trips) : Fin 3 → Nat :=
  let c0_169 : Index := 0#32
  let c0_i32_52 : BitVec 32 := 0#32
  let c1_i32_53 : BitVec 32 := 1#32
  let arg20 : BitVec 32 := Scf.iv c0_i32_52 c1_i32_53 k0_t1
  let c0_i32_153 : BitVec 32 := 0#32
  let v363 : BitVec 1 := Scalar.cmpi .sgt arg20 c0_i32_153
  let v364 : BitVec 32 := Scalar.extui v363
  let c0_i32_154 : BitVec 32 := 0#32
  let v365 : BitVec 1 := Scalar.cmpi .slt arg20 c0_i32_154
  let v366 : BitVec 32 := Scalar.extui v365
  let v367 : BitVec 32 := Scalar.subi v364 v366
  let c4_i32 : BitVec 32 := 4#32
  let c0_i32_155 : BitVec 32 := 0#32
  let v368 : BitVec 1 := Scalar.cmpi .sgt c4_i32 c0_i32_155
  let v369 : BitVec 32 := Scalar.extui v368
  let c0_i32_156 : BitVec 32 := 0#32
  let v370 : BitVec 1 := Scalar.cmpi .slt c4_i32 c0_i32_156
  let v371 : BitVec 32 := Scalar.extui v370
  let v372 : BitVec 32 := Scalar.subi v369 v371
  let v373 : BitVec 1 := Scalar.cmpi .ne v367 v372
  let v374 : BitVec 32 := Scalar.remsi arg20 c4_i32
  let c0_i32_157 : BitVec 32 := 0#32
  let v375 : BitVec 1 := Scalar.cmpi .ne v374 c0_i32_157
  let v376 : BitVec 1 := Scalar.andi v373 v375
  let v362 : BitVec 32 := Scalar.divsi arg20 c4_i32
  let c1_i32_158 : BitVec 32 := 1#32
  let v377 : BitVec 32 := Scalar.subi v362 c1_i32_158
  let v378 : BitVec 32 := Scalar.select v376 v377 v362
  let c512_i32 : BitVec 32 := 512#32
  let v389 : BitVec 32 := Scalar.muli v378 c512_i32
  let c4_i32_159 : BitVec 32 := 4#32
  let c0_i32_160 : BitVec 32 := 0#32
  let v379 : BitVec 1 := Scalar.cmpi .eq c4_i32_159 c0_i32_160
  let c1_i32_161 : BitVec 32 := 1#32
  let v380 : BitVec 32 := Scalar.select v379 c1_i32_161 c4_i32_159
  let v381 : BitVec 32 := Scalar.remsi arg20 v380
  let c0_i32_163 : BitVec 32 := 0#32
  let v383 : BitVec 1 := Scalar.cmpi .slt v381 c0_i32_163
  let c0_i32_164 : BitVec 32 := 0#32
  let v384 : BitVec 1 := Scalar.cmpi .slt v380 c0_i32_164
  let v385 : BitVec 1 := Scalar.xori v383 v384
  let c0_i32_162 : BitVec 32 := 0#32
  let v382 : BitVec 1 := Scalar.cmpi .ne v381 c0_i32_162
  let v386 : BitVec 1 := Scalar.andi v385 v382
  let v387 : BitVec 32 := Scalar.addi v381 v380
  let v388 : BitVec 32 := Scalar.select v386 v387 v381
  let v390 : BitVec 32 := Scalar.addi v389 v388
  let v398 : Index := Scalar.indexCast v390
  let c0_170 : Index := 0#32
  ![0, v398.toNat, 0]
def k0_off9 (k0_t1 : Fin k0_t1_loop.trips) : Fin 2 → Nat :=
  let c1536_i32 : BitVec 32 := 1536#32
  let c0_i32_52 : BitVec 32 := 0#32
  let c1_i32_53 : BitVec 32 := 1#32
  let arg20 : BitVec 32 := Scf.iv c0_i32_52 c1_i32_53 k0_t1
  let c0_i32_153 : BitVec 32 := 0#32
  let v363 : BitVec 1 := Scalar.cmpi .sgt arg20 c0_i32_153
  let v364 : BitVec 32 := Scalar.extui v363
  let c0_i32_154 : BitVec 32 := 0#32
  let v365 : BitVec 1 := Scalar.cmpi .slt arg20 c0_i32_154
  let v366 : BitVec 32 := Scalar.extui v365
  let v367 : BitVec 32 := Scalar.subi v364 v366
  let c4_i32 : BitVec 32 := 4#32
  let c0_i32_155 : BitVec 32 := 0#32
  let v368 : BitVec 1 := Scalar.cmpi .sgt c4_i32 c0_i32_155
  let v369 : BitVec 32 := Scalar.extui v368
  let c0_i32_156 : BitVec 32 := 0#32
  let v370 : BitVec 1 := Scalar.cmpi .slt c4_i32 c0_i32_156
  let v371 : BitVec 32 := Scalar.extui v370
  let v372 : BitVec 32 := Scalar.subi v369 v371
  let v373 : BitVec 1 := Scalar.cmpi .ne v367 v372
  let v374 : BitVec 32 := Scalar.remsi arg20 c4_i32
  let c0_i32_157 : BitVec 32 := 0#32
  let v375 : BitVec 1 := Scalar.cmpi .ne v374 c0_i32_157
  let v376 : BitVec 1 := Scalar.andi v373 v375
  let v362 : BitVec 32 := Scalar.divsi arg20 c4_i32
  let c1_i32_158 : BitVec 32 := 1#32
  let v377 : BitVec 32 := Scalar.subi v362 c1_i32_158
  let v378 : BitVec 32 := Scalar.select v376 v377 v362
  let c512_i32 : BitVec 32 := 512#32
  let v389 : BitVec 32 := Scalar.muli v378 c512_i32
  let c4_i32_159 : BitVec 32 := 4#32
  let c0_i32_160 : BitVec 32 := 0#32
  let v379 : BitVec 1 := Scalar.cmpi .eq c4_i32_159 c0_i32_160
  let c1_i32_161 : BitVec 32 := 1#32
  let v380 : BitVec 32 := Scalar.select v379 c1_i32_161 c4_i32_159
  let v381 : BitVec 32 := Scalar.remsi arg20 v380
  let c0_i32_163 : BitVec 32 := 0#32
  let v383 : BitVec 1 := Scalar.cmpi .slt v381 c0_i32_163
  let c0_i32_164 : BitVec 32 := 0#32
  let v384 : BitVec 1 := Scalar.cmpi .slt v380 c0_i32_164
  let v385 : BitVec 1 := Scalar.xori v383 v384
  let c0_i32_162 : BitVec 32 := 0#32
  let v382 : BitVec 1 := Scalar.cmpi .ne v381 c0_i32_162
  let v386 : BitVec 1 := Scalar.andi v385 v382
  let v387 : BitVec 32 := Scalar.addi v381 v380
  let v388 : BitVec 32 := Scalar.select v386 v387 v381
  let v390 : BitVec 32 := Scalar.addi v389 v388
  let v401 : BitVec 32 := Scalar.addi c1536_i32 v390
  let v402 : Index := Scalar.indexCast v401
  let c0_171 : Index := 0#32
  ![v402.toNat, 0]
def k0_off10 (k0_t1 : Fin k0_t1_loop.trips) : Fin 3 → Nat :=
  let c1_192 : Index := 1#32
  let c0_i32_52 : BitVec 32 := 0#32
  let c1_i32_53 : BitVec 32 := 1#32
  let arg20 : BitVec 32 := Scf.iv c0_i32_52 c1_i32_53 k0_t1
  let c0_i32_153 : BitVec 32 := 0#32
  let v363 : BitVec 1 := Scalar.cmpi .sgt arg20 c0_i32_153
  let v364 : BitVec 32 := Scalar.extui v363
  let c0_i32_154 : BitVec 32 := 0#32
  let v365 : BitVec 1 := Scalar.cmpi .slt arg20 c0_i32_154
  let v366 : BitVec 32 := Scalar.extui v365
  let v367 : BitVec 32 := Scalar.subi v364 v366
  let c4_i32 : BitVec 32 := 4#32
  let c0_i32_155 : BitVec 32 := 0#32
  let v368 : BitVec 1 := Scalar.cmpi .sgt c4_i32 c0_i32_155
  let v369 : BitVec 32 := Scalar.extui v368
  let c0_i32_156 : BitVec 32 := 0#32
  let v370 : BitVec 1 := Scalar.cmpi .slt c4_i32 c0_i32_156
  let v371 : BitVec 32 := Scalar.extui v370
  let v372 : BitVec 32 := Scalar.subi v369 v371
  let v373 : BitVec 1 := Scalar.cmpi .ne v367 v372
  let v374 : BitVec 32 := Scalar.remsi arg20 c4_i32
  let c0_i32_157 : BitVec 32 := 0#32
  let v375 : BitVec 1 := Scalar.cmpi .ne v374 c0_i32_157
  let v376 : BitVec 1 := Scalar.andi v373 v375
  let v362 : BitVec 32 := Scalar.divsi arg20 c4_i32
  let c1_i32_158 : BitVec 32 := 1#32
  let v377 : BitVec 32 := Scalar.subi v362 c1_i32_158
  let v378 : BitVec 32 := Scalar.select v376 v377 v362
  let c512_i32 : BitVec 32 := 512#32
  let v389 : BitVec 32 := Scalar.muli v378 c512_i32
  let c4_i32_159 : BitVec 32 := 4#32
  let c0_i32_160 : BitVec 32 := 0#32
  let v379 : BitVec 1 := Scalar.cmpi .eq c4_i32_159 c0_i32_160
  let c1_i32_161 : BitVec 32 := 1#32
  let v380 : BitVec 32 := Scalar.select v379 c1_i32_161 c4_i32_159
  let v381 : BitVec 32 := Scalar.remsi arg20 v380
  let c0_i32_163 : BitVec 32 := 0#32
  let v383 : BitVec 1 := Scalar.cmpi .slt v381 c0_i32_163
  let c0_i32_164 : BitVec 32 := 0#32
  let v384 : BitVec 1 := Scalar.cmpi .slt v380 c0_i32_164
  let v385 : BitVec 1 := Scalar.xori v383 v384
  let c0_i32_162 : BitVec 32 := 0#32
  let v382 : BitVec 1 := Scalar.cmpi .ne v381 c0_i32_162
  let v386 : BitVec 1 := Scalar.andi v385 v382
  let v387 : BitVec 32 := Scalar.addi v381 v380
  let v388 : BitVec 32 := Scalar.select v386 v387 v381
  let v390 : BitVec 32 := Scalar.addi v389 v388
  let v481 : Index := Scalar.indexCast v390
  let c0_193 : Index := 0#32
  ![1, v481.toNat, 0]
def k0_off11 (k0_t1 : Fin k0_t1_loop.trips) : Fin 3 → Nat :=
  let c0_213 : Index := 0#32
  let c0_i32_52 : BitVec 32 := 0#32
  let c1_i32_53 : BitVec 32 := 1#32
  let arg20 : BitVec 32 := Scf.iv c0_i32_52 c1_i32_53 k0_t1
  let c0_i32_197 : BitVec 32 := 0#32
  let v490 : BitVec 1 := Scalar.cmpi .sgt arg20 c0_i32_197
  let v491 : BitVec 32 := Scalar.extui v490
  let c0_i32_198 : BitVec 32 := 0#32
  let v492 : BitVec 1 := Scalar.cmpi .slt arg20 c0_i32_198
  let v493 : BitVec 32 := Scalar.extui v492
  let v494 : BitVec 32 := Scalar.subi v491 v493
  let c16_i32_196 : BitVec 32 := 16#32
  let c0_i32_199 : BitVec 32 := 0#32
  let v495 : BitVec 1 := Scalar.cmpi .sgt c16_i32_196 c0_i32_199
  let v496 : BitVec 32 := Scalar.extui v495
  let c0_i32_200 : BitVec 32 := 0#32
  let v497 : BitVec 1 := Scalar.cmpi .slt c16_i32_196 c0_i32_200
  let v498 : BitVec 32 := Scalar.extui v497
  let v499 : BitVec 32 := Scalar.subi v496 v498
  let v500 : BitVec 1 := Scalar.cmpi .ne v494 v499
  let v501 : BitVec 32 := Scalar.remsi arg20 c16_i32_196
  let c0_i32_201 : BitVec 32 := 0#32
  let v502 : BitVec 1 := Scalar.cmpi .ne v501 c0_i32_201
  let v503 : BitVec 1 := Scalar.andi v500 v502
  let v489 : BitVec 32 := Scalar.divsi arg20 c16_i32_196
  let c1_i32_202 : BitVec 32 := 1#32
  let v504 : BitVec 32 := Scalar.subi v489 c1_i32_202
  let v505 : BitVec 32 := Scalar.select v503 v504 v489
  let c2048_i32 : BitVec 32 := 2048#32
  let v516 : BitVec 32 := Scalar.muli v505 c2048_i32
  let c16_i32_203 : BitVec 32 := 16#32
  let c0_i32_204 : BitVec 32 := 0#32
  let v506 : BitVec 1 := Scalar.cmpi .eq c16_i32_203 c0_i32_204
  let c1_i32_205 : BitVec 32 := 1#32
  let v507 : BitVec 32 := Scalar.select v506 c1_i32_205 c16_i32_203
  let v508 : BitVec 32 := Scalar.remsi arg20 v507
  let c0_i32_207 : BitVec 32 := 0#32
  let v510 : BitVec 1 := Scalar.cmpi .slt v508 c0_i32_207
  let c0_i32_208 : BitVec 32 := 0#32
  let v511 : BitVec 1 := Scalar.cmpi .slt v507 c0_i32_208
  let v512 : BitVec 1 := Scalar.xori v510 v511
  let c0_i32_206 : BitVec 32 := 0#32
  let v509 : BitVec 1 := Scalar.cmpi .ne v508 c0_i32_206
  let v513 : BitVec 1 := Scalar.andi v512 v509
  let v514 : BitVec 32 := Scalar.addi v508 v507
  let v515 : BitVec 32 := Scalar.select v513 v514 v508
  let v517 : BitVec 32 := Scalar.addi v516 v515
  let v525 : Index := Scalar.indexCast v517
  let c0_214 : Index := 0#32
  ![0, v525.toNat, 0]
def k0_off12 (k0_t1 : Fin k0_t1_loop.trips) : Fin 2 → Nat :=
  let c0_i32_215 : BitVec 32 := 0#32
  let c0_i32_52 : BitVec 32 := 0#32
  let c1_i32_53 : BitVec 32 := 1#32
  let arg20 : BitVec 32 := Scf.iv c0_i32_52 c1_i32_53 k0_t1
  let c0_i32_197 : BitVec 32 := 0#32
  let v490 : BitVec 1 := Scalar.cmpi .sgt arg20 c0_i32_197
  let v491 : BitVec 32 := Scalar.extui v490
  let c0_i32_198 : BitVec 32 := 0#32
  let v492 : BitVec 1 := Scalar.cmpi .slt arg20 c0_i32_198
  let v493 : BitVec 32 := Scalar.extui v492
  let v494 : BitVec 32 := Scalar.subi v491 v493
  let c16_i32_196 : BitVec 32 := 16#32
  let c0_i32_199 : BitVec 32 := 0#32
  let v495 : BitVec 1 := Scalar.cmpi .sgt c16_i32_196 c0_i32_199
  let v496 : BitVec 32 := Scalar.extui v495
  let c0_i32_200 : BitVec 32 := 0#32
  let v497 : BitVec 1 := Scalar.cmpi .slt c16_i32_196 c0_i32_200
  let v498 : BitVec 32 := Scalar.extui v497
  let v499 : BitVec 32 := Scalar.subi v496 v498
  let v500 : BitVec 1 := Scalar.cmpi .ne v494 v499
  let v501 : BitVec 32 := Scalar.remsi arg20 c16_i32_196
  let c0_i32_201 : BitVec 32 := 0#32
  let v502 : BitVec 1 := Scalar.cmpi .ne v501 c0_i32_201
  let v503 : BitVec 1 := Scalar.andi v500 v502
  let v489 : BitVec 32 := Scalar.divsi arg20 c16_i32_196
  let c1_i32_202 : BitVec 32 := 1#32
  let v504 : BitVec 32 := Scalar.subi v489 c1_i32_202
  let v505 : BitVec 32 := Scalar.select v503 v504 v489
  let c2048_i32 : BitVec 32 := 2048#32
  let v516 : BitVec 32 := Scalar.muli v505 c2048_i32
  let c16_i32_203 : BitVec 32 := 16#32
  let c0_i32_204 : BitVec 32 := 0#32
  let v506 : BitVec 1 := Scalar.cmpi .eq c16_i32_203 c0_i32_204
  let c1_i32_205 : BitVec 32 := 1#32
  let v507 : BitVec 32 := Scalar.select v506 c1_i32_205 c16_i32_203
  let v508 : BitVec 32 := Scalar.remsi arg20 v507
  let c0_i32_207 : BitVec 32 := 0#32
  let v510 : BitVec 1 := Scalar.cmpi .slt v508 c0_i32_207
  let c0_i32_208 : BitVec 32 := 0#32
  let v511 : BitVec 1 := Scalar.cmpi .slt v507 c0_i32_208
  let v512 : BitVec 1 := Scalar.xori v510 v511
  let c0_i32_206 : BitVec 32 := 0#32
  let v509 : BitVec 1 := Scalar.cmpi .ne v508 c0_i32_206
  let v513 : BitVec 1 := Scalar.andi v512 v509
  let v514 : BitVec 32 := Scalar.addi v508 v507
  let v515 : BitVec 32 := Scalar.select v513 v514 v508
  let v517 : BitVec 32 := Scalar.addi v516 v515
  let v528 : BitVec 32 := Scalar.addi c0_i32_215 v517
  let v529 : Index := Scalar.indexCast v528
  let c0_216 : Index := 0#32
  ![v529.toNat, 0]
def k0_off13 (k0_t1 : Fin k0_t1_loop.trips) : Fin 3 → Nat :=
  let c2_237 : Index := 2#32
  let c0_i32_52 : BitVec 32 := 0#32
  let c1_i32_53 : BitVec 32 := 1#32
  let arg20 : BitVec 32 := Scf.iv c0_i32_52 c1_i32_53 k0_t1
  let c0_i32_197 : BitVec 32 := 0#32
  let v490 : BitVec 1 := Scalar.cmpi .sgt arg20 c0_i32_197
  let v491 : BitVec 32 := Scalar.extui v490
  let c0_i32_198 : BitVec 32 := 0#32
  let v492 : BitVec 1 := Scalar.cmpi .slt arg20 c0_i32_198
  let v493 : BitVec 32 := Scalar.extui v492
  let v494 : BitVec 32 := Scalar.subi v491 v493
  let c16_i32_196 : BitVec 32 := 16#32
  let c0_i32_199 : BitVec 32 := 0#32
  let v495 : BitVec 1 := Scalar.cmpi .sgt c16_i32_196 c0_i32_199
  let v496 : BitVec 32 := Scalar.extui v495
  let c0_i32_200 : BitVec 32 := 0#32
  let v497 : BitVec 1 := Scalar.cmpi .slt c16_i32_196 c0_i32_200
  let v498 : BitVec 32 := Scalar.extui v497
  let v499 : BitVec 32 := Scalar.subi v496 v498
  let v500 : BitVec 1 := Scalar.cmpi .ne v494 v499
  let v501 : BitVec 32 := Scalar.remsi arg20 c16_i32_196
  let c0_i32_201 : BitVec 32 := 0#32
  let v502 : BitVec 1 := Scalar.cmpi .ne v501 c0_i32_201
  let v503 : BitVec 1 := Scalar.andi v500 v502
  let v489 : BitVec 32 := Scalar.divsi arg20 c16_i32_196
  let c1_i32_202 : BitVec 32 := 1#32
  let v504 : BitVec 32 := Scalar.subi v489 c1_i32_202
  let v505 : BitVec 32 := Scalar.select v503 v504 v489
  let c2048_i32 : BitVec 32 := 2048#32
  let v516 : BitVec 32 := Scalar.muli v505 c2048_i32
  let c16_i32_203 : BitVec 32 := 16#32
  let c0_i32_204 : BitVec 32 := 0#32
  let v506 : BitVec 1 := Scalar.cmpi .eq c16_i32_203 c0_i32_204
  let c1_i32_205 : BitVec 32 := 1#32
  let v507 : BitVec 32 := Scalar.select v506 c1_i32_205 c16_i32_203
  let v508 : BitVec 32 := Scalar.remsi arg20 v507
  let c0_i32_207 : BitVec 32 := 0#32
  let v510 : BitVec 1 := Scalar.cmpi .slt v508 c0_i32_207
  let c0_i32_208 : BitVec 32 := 0#32
  let v511 : BitVec 1 := Scalar.cmpi .slt v507 c0_i32_208
  let v512 : BitVec 1 := Scalar.xori v510 v511
  let c0_i32_206 : BitVec 32 := 0#32
  let v509 : BitVec 1 := Scalar.cmpi .ne v508 c0_i32_206
  let v513 : BitVec 1 := Scalar.andi v512 v509
  let v514 : BitVec 32 := Scalar.addi v508 v507
  let v515 : BitVec 32 := Scalar.select v513 v514 v508
  let v517 : BitVec 32 := Scalar.addi v516 v515
  let v608 : Index := Scalar.indexCast v517
  let c0_238 : Index := 0#32
  ![2, v608.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c4_i32 : BitVec 32 := 4#32
  let v2 : BitVec 32 := Scalar.addi c4_i32 arg1
  let c0_i32_0 : BitVec 32 := 0#32
  ![arg0.toNat, v1.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "mask" => some ⊥
  | _ => none
-- ==== AttnRefIdeal.lean ====
abbrev S16384x512 : Shape := ⟨2, ![16384, 512]⟩
abbrev S16384x256 : Shape := ⟨2, ![16384, 256]⟩
abbrev S16384x1024 : Shape := ⟨2, ![16384, 1024]⟩
abbrev S1x8 : Shape := ⟨2, ![1, 8]⟩
abbrev S2x8192x2x4x64 : Shape := ⟨5, ![2, 8192, 2, 4, 64]⟩
abbrev S16384x128 : Shape := ⟨2, ![16384, 128]⟩
abbrev S2x8192x2x64 : Shape := ⟨4, ![2, 8192, 2, 64]⟩
abbrev S8 : Shape := ⟨1, ![8]⟩
abbrev S2x4 : Shape := ⟨2, ![2, 4]⟩
abbrev S2x64x128x2x4x64 : Shape := ⟨6, ![2, 64, 128, 2, 4, 64]⟩
abbrev S2x64x128x2x64 : Shape := ⟨5, ![2, 64, 128, 2, 64]⟩
abbrev S2x1x128x2x64 : Shape := ⟨5, ![2, 1, 128, 2, 64]⟩
abbrev S_ : Shape := ⟨0, ![]⟩
abbrev S2x63x128x2x64 : Shape := ⟨5, ![2, 63, 128, 2, 64]⟩
abbrev S2x64x256x2x64 : Shape := ⟨5, ![2, 64, 256, 2, 64]⟩
abbrev S2x64x2x256x128x4 : Shape := ⟨6, ![2, 64, 2, 256, 128, 4]⟩
abbrev S2x64x2x4x128x256 : Shape := ⟨6, ![2, 64, 2, 4, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S2x64x2x4x128 : Shape := ⟨5, ![2, 64, 2, 4, 128]⟩
abbrev S2x4x1 : Shape := ⟨3, ![2, 4, 1]⟩
abbrev S1x1x2x4x1 : Shape := ⟨5, ![1, 1, 2, 4, 1]⟩
abbrev S2x64x2x4x128x1 : Shape := ⟨6, ![2, 64, 2, 4, 128, 1]⟩
abbrev S2x64x2x64x4x128 : Shape := ⟨6, ![2, 64, 2, 64, 4, 128]⟩
abbrev S2x8192x512 : Shape := ⟨3, ![2, 8192, 512]⟩

abbrev nBuf : Space → Nat
  | .hbm => 90
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x256, .f32⟩
  | .hbm, ⟨2, _⟩ => ⟨S16384x512, .f32⟩
  | .hbm, ⟨3, _⟩ => ⟨S16384x1024, .f32⟩
  | .hbm, ⟨4, _⟩ => ⟨S1x8, .f32⟩
  | .hbm, ⟨5, _⟩ => ⟨S2x8192x2x4x64, .f32⟩
  | .hbm, ⟨6, _⟩ => ⟨S16384x128, .f32⟩
  | .hbm, ⟨7, _⟩ => ⟨S2x8192x2x64, .f32⟩
  | .hbm, ⟨8, _⟩ => ⟨S16384x128, .f32⟩
  | .hbm, ⟨9, _⟩ => ⟨S2x8192x2x64, .f32⟩
  | .hbm, ⟨10, _⟩ => ⟨S8, .f32⟩
  | .hbm, ⟨11, _⟩ => ⟨S2x4, .f32⟩
  | .hbm, ⟨12, _⟩ => ⟨S2x64x128x2x4x64, .f32⟩
  | .hbm, ⟨13, _⟩ => ⟨S2x64x128x2x64, .f32⟩
  | .hbm, ⟨14, _⟩ => ⟨S2x64x128x2x64, .f32⟩
  | .hbm, ⟨15, _⟩ => ⟨S2x1x128x2x64, .f32⟩
  | .hbm, ⟨16, _⟩ => ⟨S_, .f32⟩
  | .hbm, ⟨17, _⟩ => ⟨S2x1x128x2x64, .f32⟩
  | .hbm, ⟨18, _⟩ => ⟨S2x63x128x2x64, .f32⟩
  | .hbm, ⟨19, _⟩ => ⟨S2x64x128x2x64, .f32⟩
  | .hbm, ⟨20, _⟩ => ⟨S2x64x256x2x64, .f32⟩
  | .hbm, ⟨21, _⟩ => ⟨S2x1x128x2x64, .f32⟩
  | .hbm, ⟨22, _⟩ => ⟨S_, .f32⟩
  | .hbm, ⟨23, _⟩ => ⟨S2x1x128x2x64, .f32⟩
  | .hbm, ⟨24, _⟩ => ⟨S2x63x128x2x64, .f32⟩
  | .hbm, ⟨25, _⟩ => ⟨S2x64x128x2x64, .f32⟩
  | .hbm, ⟨26, _⟩ => ⟨S2x64x256x2x64, .f32⟩
  | .hbm, ⟨27, _⟩ => ⟨S2x64x2x256x128x4, .f32⟩
  | .hbm, ⟨28, _⟩ => ⟨S2x64x2x4x128x256, .f32⟩
  | .hbm, ⟨29, _⟩ => ⟨S_, .f32⟩
  | .hbm, ⟨30, _⟩ => ⟨S2x64x2x4x128x256, .f32⟩
  | .hbm, ⟨31, _⟩ => ⟨S2x64x2x4x128x256, .f32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S256, .i32⟩
  | .hbm, ⟨37, _⟩ => ⟨S128x1, .i32⟩
  | .hbm, ⟨38, _⟩ => ⟨S1x256, .i32⟩
  | .hbm, ⟨39, _⟩ => ⟨S128x256, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S128x256, .i1⟩
  | .hbm, ⟨49, _⟩ => ⟨S64, .i32⟩
  | .hbm, ⟨50, _⟩ => ⟨S64x1x1, .i32⟩
  | .hbm, ⟨51, _⟩ => ⟨S_, .i32⟩
  | .hbm, ⟨52, _⟩ => ⟨S64x1x1, .i32⟩
  | .hbm, ⟨53, _⟩ => ⟨S64x1x1, .i1⟩
  | .hbm, ⟨54, _⟩ => ⟨S1x1x256, .i32⟩
  | .hbm, ⟨55, _⟩ => ⟨S_, .i32⟩
  | .hbm, ⟨56, _⟩ => ⟨S1x1x256, .i32⟩
  | .hbm, ⟨57, _⟩ => ⟨S1x1x256, .i1⟩
  | .hbm, ⟨58, _⟩ => ⟨S64x1x256, .i1⟩
  | .hbm, ⟨59, _⟩ => ⟨S64x1x256, .i1⟩
  | .hbm, ⟨60, _⟩ => ⟨S64x1x256, .i1⟩
  | .hbm, ⟨61, _⟩ => ⟨S1x128x256, .i1⟩
  | .hbm, ⟨62, _⟩ => ⟨S64x128x256, .i1⟩
  | .hbm, ⟨63, _⟩ => ⟨S64x128x256, .i1⟩
  | .hbm, ⟨64, _⟩ => ⟨S64x128x256, .i1⟩
  | .hbm, ⟨65, _⟩ => ⟨S1x64x1x1x128x256, .i1⟩
  | .hbm, ⟨66, _⟩ => ⟨S_, .f32⟩
  | .hbm, ⟨67, _⟩ => ⟨S_, .f32⟩
  | .hbm, ⟨68, _⟩ => ⟨S2x64x2x4x128x256, .i1⟩
  | .hbm, ⟨69, _⟩ => ⟨S2x64x2x4x128x256, .f32⟩
  | .hbm, ⟨70, _⟩ => ⟨S2x64x2x4x128x256, .f32⟩
  | .hbm, ⟨71, _⟩ => ⟨S2x64x2x4x128x256, .f32⟩
  | .hbm, ⟨72, _⟩ => ⟨S_, .f32⟩
  | .hbm, ⟨73, _⟩ => ⟨S2x64x2x4x128, .f32⟩
  | .hbm, ⟨74, _⟩ => ⟨S2x64x2x4x128, .f32⟩
  | .hbm, ⟨75, _⟩ => ⟨S2x64x2x4x128, .f32⟩
  | .hbm, ⟨76, _⟩ => ⟨S2x4x1, .f32⟩
  | .hbm, ⟨77, _⟩ => ⟨S2x4x1, .f32⟩
  | .hbm, ⟨78, _⟩ => ⟨S1x1x2x4x1, .f32⟩
  | .hbm, ⟨79, _⟩ => ⟨S2x64x2x4x128, .f32⟩
  | .hbm, ⟨80, _⟩ => ⟨S2x64x2x4x128, .f32⟩
  | .hbm, ⟨81, _⟩ => ⟨S2x64x2x4x128, .f32⟩
  | .hbm, ⟨82, _⟩ => ⟨S2x64x2x4x128x1, .f32⟩
  | .hbm, ⟨83, _⟩ => ⟨S2x64x2x4x128x256, .f32⟩
  | .hbm, ⟨84, _⟩ => ⟨S2x64x2x4x128x256, .f32⟩
  | .hbm, ⟨85, _⟩ => ⟨S2x64x2x4x128x256, .f32⟩
  | .hbm, ⟨86, _⟩ => ⟨S2x64x2x64x4x128, .f32⟩
  | .hbm, ⟨87, _⟩ => ⟨S2x64x128x2x4x64, .f32⟩
  | .hbm, ⟨88, _⟩ => ⟨S2x8192x2x4x64, .f32⟩
  | .hbm, ⟨89, _⟩ => ⟨S2x8192x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_2 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Mix.lean ====
abbrev S16384x512 : Shape := ⟨2, ![16384, 512]⟩
abbrev S16384x1024 : Shape := ⟨2, ![16384, 1024]⟩
abbrev S1x512 : Shape := ⟨2, ![1, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S512 : Shape := ⟨1, ![512]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S16x128x128 : Shape := ⟨3, ![16, 128, 128]⟩
abbrev S1024x16384 : Shape := ⟨2, ![1024, 16384]⟩
abbrev S16x128x16384 : Shape := ⟨3, ![16, 128, 16384]⟩
abbrev S256x512 : Shape := ⟨2, ![256, 512]⟩
abbrev S256x1024 : Shape := ⟨2, ![256, 1024]⟩
abbrev S1024x256 : Shape := ⟨2, ![1024, 256]⟩
abbrev S16x128x256 : Shape := ⟨3, ![16, 128, 256]⟩
abbrev S256 : Shape := ⟨1, ![256]⟩
abbrev S256x1 : Shape := ⟨2, ![256, 1]⟩
abbrev S256x2048 : Shape := ⟨2, ![256, 2048]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 25
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x2048, .f32⟩
  | .hbm, ⟨8, _⟩ => ⟨S1x8x2x128x128, .f32⟩
  | .hbm, ⟨9, _⟩ => ⟨S512, .f32⟩
  | .hbm, ⟨10, _⟩ => ⟨S1x512, .f32⟩
  | .hbm, ⟨11, _⟩ => ⟨S512, .f32⟩
  | .hbm, ⟨12, _⟩ => ⟨S1x512, .f32⟩
  | .hbm, ⟨13, _⟩ => ⟨S1024x1024, .f32⟩
  | .hbm, ⟨14, _⟩ => ⟨S1024x1024, .bf16⟩
  | .hbm, ⟨15, _⟩ => ⟨S1024, .f32⟩
  | .hbm, ⟨16, _⟩ => ⟨S1x1024, .f32⟩
  | .hbm, ⟨17, _⟩ => ⟨S1024x2048, .f32⟩
  | .hbm, ⟨18, _⟩ => ⟨S1024x2048, .bf16⟩
  | .hbm, ⟨19, _⟩ => ⟨S8x2x128x128, .f32⟩
  | .hbm, ⟨20, _⟩ => ⟨S16x128x128, .f32⟩
  | .hbm, ⟨21, _⟩ => ⟨S16x128x128, .bf16⟩
  | .hbm, ⟨22, _⟩ => ⟨S16384x1024, .f32⟩
  | .hbm, ⟨23, _⟩ => ⟨S1024x16384, .bf16⟩
  | .hbm, ⟨24, _⟩ => ⟨S16x128x16384, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1024x2048, .bf16⟩
  | .local _ .vmem, ⟨11, _⟩ => ⟨S16x128x128, .bf16⟩
  | .local _ .vmem, ⟨12, _⟩ => ⟨S256x1024, .f32⟩
  | .local _ .vmem, ⟨13, _⟩ => ⟨S256x1024, .f32⟩
  | .local _ .vmem, ⟨14, _⟩ => ⟨S1024x256, .bf16⟩
  | .local _ .vmem, ⟨15, _⟩ => ⟨S1024x256, .bf16⟩
  | .local _ .vmem, ⟨16, _⟩ => ⟨S16x128x256, .f32⟩
  | .local _ .vmem, ⟨17, _⟩ => ⟨S16x128x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixRefIdeal.lean ====
abbrev S16384x512 : Shape := ⟨2, ![16384, 512]⟩
abbrev S16384x1024 : Shape := ⟨2, ![16384, 1024]⟩
abbrev S1x512 : Shape := ⟨2, ![1, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S512 : Shape := ⟨1, ![512]⟩
abbrev S_ : Shape := ⟨0, ![]⟩
abbrev S16384 : Shape := ⟨1, ![16384]⟩
abbrev S16384x1 : Shape := ⟨2, ![16384, 1]⟩
abbrev S1024x1024 : Shape := ⟨2, ![1024, 1024]⟩
abbrev S1024 : Shape := ⟨1, ![1024]⟩
abbrev S1024x2048 : Shape := ⟨2, ![1024, 2048]⟩
abbrev S16384x2048 : Shape := ⟨2, ![16384, 2048]⟩
abbrev S16384x8x2x128 : Shape := ⟨4, ![16384, 8, 2, 128]⟩
abbrev S8x2x128x128 : Shape := ⟨4, ![8, 2, 128, 128]⟩
abbrev S8x2x128x16384 : Shape := ⟨4, ![8, 2, 128, 16384]⟩
abbrev S1024x16384 : Shape := ⟨2, ![1024, 16384]⟩
abbrev S16x128x16384 : Shape := ⟨3, ![16, 128, 16384]⟩

abbrev nBuf : Space → Nat
  | .hbm => 74
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x2048, .f32⟩
  | .hbm, ⟨8, _⟩ => ⟨S1x8x2x128x128, .f32⟩
  | .hbm, ⟨9, _⟩ => ⟨S512, .f32⟩
  | .hbm, ⟨10, _⟩ => ⟨S16384x512, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x512, .f32⟩
  | .hbm, ⟨22, _⟩ => ⟨S16384x512, .f32⟩
  | .hbm, ⟨23, _⟩ => ⟨S1x512, .f32⟩
  | .hbm, ⟨24, _⟩ => ⟨S16384x512, .f32⟩
  | .hbm, ⟨25, _⟩ => ⟨S16384x512, .f32⟩
  | .hbm, ⟨26, _⟩ => ⟨S512, .f32⟩
  | .hbm, ⟨27, _⟩ => ⟨S16384x512, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x512, .f32⟩
  | .hbm, ⟨39, _⟩ => ⟨S16384x512, .f32⟩
  | .hbm, ⟨40, _⟩ => ⟨S1x512, .f32⟩
  | .hbm, ⟨41, _⟩ => ⟨S16384x512, .f32⟩
  | .hbm, ⟨42, _⟩ => ⟨S16384x512, .f32⟩
  | .hbm, ⟨43, _⟩ => ⟨S16384x1024, .f32⟩
  | .hbm, ⟨44, _⟩ => ⟨S1024x1024, .f32⟩
  | .hbm, ⟨45, _⟩ => ⟨S16384x1024, .f32⟩
  | .hbm, ⟨46, _⟩ => ⟨S16384x1024, .f32⟩
  | .hbm, ⟨47, _⟩ => ⟨S1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S1024x2048, .f32⟩
  | .hbm, ⟨65, _⟩ => ⟨S16384x2048, .f32⟩
  | .hbm, ⟨66, _⟩ => ⟨S16384x8x2x128, .f32⟩
  | .hbm, ⟨67, _⟩ => ⟨S8x2x128x128, .f32⟩
  | .hbm, ⟨68, _⟩ => ⟨S8x2x128x16384, .f32⟩
  | .hbm, ⟨69, _⟩ => ⟨S16384x8x2x128, .f32⟩
  | .hbm, ⟨70, _⟩ => ⟨S1024x16384, .f32⟩
  | .hbm, ⟨71, _⟩ => ⟨S1024x16384, .bf16⟩
  | .hbm, ⟨72, _⟩ => ⟨S8x2x128x16384, .f32⟩
  | .hbm, ⟨73, _⟩ => ⟨S16x128x16384, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Proj.lean ====
abbrev S2x8192x1024 : Shape := ⟨3, ![2, 8192, 1024]⟩
abbrev S1x1024 : Shape := ⟨2, ![1, 1024]⟩
abbrev S1x1024x2304 : Shape := ⟨3, ![1, 1024, 2304]⟩
abbrev S1024x2304 : Shape := ⟨2, ![1024, 2304]⟩
abbrev S1024 : Shape := ⟨1, ![1024]⟩
abbrev S16384x1024 : Shape := ⟨2, ![16384, 1024]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x56 : Shape := ⟨2, ![8192, 56]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S16384x512 : Shape := ⟨2, ![16384, 512]⟩
abbrev S16384x256 : Shape := ⟨2, ![16384, 256]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x2304 : Shape := ⟨2, ![512, 2304]⟩

abbrev nBuf : Space → Nat
  | .hbm => 56
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2304, .f32⟩
  | .hbm, ⟨3, _⟩ => ⟨S1024x2304, .f32⟩
  | .hbm, ⟨4, _⟩ => ⟨S1024x2304, .bf16⟩
  | .hbm, ⟨5, _⟩ => ⟨S1024, .f32⟩
  | .hbm, ⟨6, _⟩ => ⟨S1x1024, .f32⟩
  | .hbm, ⟨7, _⟩ => ⟨S16384x1024, .f32⟩
  | .hbm, ⟨8, _⟩ => ⟨S8192, .i32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S8192, .f32⟩
  | .hbm, ⟨24, _⟩ => ⟨S8192x1, .f32⟩
  | .hbm, ⟨25, _⟩ => ⟨S1x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S_, .f32⟩
  | .hbm, ⟨32, _⟩ => ⟨S8192x48, .f32⟩
  | .hbm, ⟨33, _⟩ => ⟨S8192x64, .f32⟩
  | .hbm, ⟨34, _⟩ => ⟨S8192x8, .f32⟩
  | .hbm, ⟨35, _⟩ => ⟨S_, .f32⟩
  | .hbm, ⟨36, _⟩ => ⟨S8192x56, .f32⟩
  | .hbm, ⟨37, _⟩ => ⟨S8192x64, .f32⟩
  | .hbm, ⟨38, _⟩ => ⟨S_, .f32⟩
  | .hbm, ⟨39, _⟩ => ⟨S8192x8, .f32⟩
  | .hbm, ⟨40, _⟩ => ⟨S_, .f32⟩
  | .hbm, ⟨41, _⟩ => ⟨S8192x48, .f32⟩
  | .hbm, ⟨42, _⟩ => ⟨S8192x64, .f32⟩
  | .hbm, ⟨43, _⟩ => ⟨S1x8192x1x64, .f32⟩
  | .hbm, ⟨44, _⟩ => ⟨S1x8192x2x64, .f32⟩
  | .hbm, ⟨45, _⟩ => ⟨S8192x128, .f32⟩
  | .hbm, ⟨46, _⟩ => ⟨S1x8192x1x64, .f32⟩
  | .hbm, ⟨47, _⟩ => ⟨S1x8192x2x64, .f32⟩
  | .hbm, ⟨48, _⟩ => ⟨S8192x128, .f32⟩
  | .hbm, ⟨49, _⟩ => ⟨S1x8192x1x64, .f32⟩
  | .hbm, ⟨50, _⟩ => ⟨S1x8192x2x64, .f32⟩
  | .hbm, ⟨51, _⟩ => ⟨S8192x128, .f32⟩
  | .hbm, ⟨52, _⟩ => ⟨S16384x512, .f32⟩
  | .hbm, ⟨53, _⟩ => ⟨S16384x256, .f32⟩
  | .hbm, ⟨54, _⟩ => ⟨S16384x512, .f32⟩
  | .hbm, ⟨55, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .f32⟩
  | .local _ .vmem, ⟨11, _⟩ => ⟨S512x512, .f32⟩
  | .local _ .vmem, ⟨12, _⟩ => ⟨S512x256, .f32⟩
  | .local _ .vmem, ⟨13, _⟩ => ⟨S512x256, .f32⟩
  | .local _ .vmem, ⟨14, _⟩ => ⟨S512x512, .f32⟩
  | .local _ .vmem, ⟨15, _⟩ => ⟨S512x512, .f32⟩
  | .local _ .vmem, ⟨16, _⟩ => ⟨S512x1024, .f32⟩
  | .local _ .vmem, ⟨17, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41_0 : Ref sig .tc := ⟨.hbm, 52, rfl⟩
abbrev main_v41_1 : Ref sig .tc := ⟨.hbm, 53, rfl⟩
abbrev main_v41_2 : Ref sig .tc := ⟨.hbm, 54, rfl⟩
abbrev main_v41_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjRefIdeal.lean ====
abbrev S2x8192x1024 : Shape := ⟨3, ![2, 8192, 1024]⟩
abbrev S1x1024 : Shape := ⟨2, ![1, 1024]⟩
abbrev S1x1024x2304 : Shape := ⟨3, ![1, 1024, 2304]⟩
abbrev S8192 : Shape := ⟨1, ![8192]⟩
abbrev S1024 : Shape := ⟨1, ![1024]⟩
abbrev S1024x2304 : Shape := ⟨2, ![1024, 2304]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2304 : Shape := ⟨3, ![2, 8192, 2304]⟩
abbrev S2x8192x512 : Shape := ⟨3, ![2, 8192, 512]⟩
abbrev S2x8192x128 : Shape := ⟨3, ![2, 8192, 128]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S2x8192x8x64 : Shape := ⟨4, ![2, 8192, 8, 64]⟩
abbrev S2x8192x8x16 : Shape := ⟨4, ![2, 8192, 8, 16]⟩
abbrev S2x8192x8x8 : Shape := ⟨4, ![2, 8192, 8, 8]⟩
abbrev S1x8192x1x8 : Shape := ⟨4, ![1, 8192, 1, 8]⟩
abbrev S2x8192x8x48 : Shape := ⟨4, ![2, 8192, 8, 48]⟩
abbrev S2x8192x2x4x64 : Shape := ⟨5, ![2, 8192, 2, 4, 64]⟩
abbrev S2x8192x2x64 : Shape := ⟨4, ![2, 8192, 2, 64]⟩
abbrev S2x8192x2x16 : Shape := ⟨4, ![2, 8192, 2, 16]⟩
abbrev S2x8192x2x8 : Shape := ⟨4, ![2, 8192, 2, 8]⟩
abbrev S2x8192x2x48 : Shape := ⟨4, ![2, 8192, 2, 48]⟩
abbrev S16384x512 : Shape := ⟨2, ![16384, 512]⟩
abbrev S16384x128 : Shape := ⟨2, ![16384, 128]⟩
abbrev S16384x256 : Shape := ⟨2, ![16384, 256]⟩
abbrev S16384x1024 : Shape := ⟨2, ![16384, 1024]⟩

abbrev nBuf : Space → Nat
  | .hbm => 148
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x2304, .f32⟩
  | 3 => ⟨S8192, .i32⟩
  | 4 => ⟨S1024, .f32⟩
  | 5 => ⟨S1024x2304, .f32⟩
  | 6 => ⟨S2x8192x1024, .f32⟩
  | 7 => ⟨S_, .f32⟩
  | 8 => ⟨S2x8192, .f32⟩
  | 9 => ⟨S2x8192x1, .f32⟩
  | 10 => ⟨S_, .f32⟩
  | 11 => ⟨S2x8192x1, .f32⟩
  | 12 => ⟨S2x8192x1, .f32⟩
  | 13 => ⟨S_, .f32⟩
  | 14 => ⟨S2x8192x1, .f32⟩
  | 15 => ⟨S2x8192x1, .f32⟩
  | 16 => ⟨S2x8192x1, .f32⟩
  | 17 => ⟨S2x8192x1024, .f32⟩
  | 18 => ⟨S2x8192x1024, .f32⟩
  | 19 => ⟨S1x1x1024, .f32⟩
  | 20 => ⟨S2x8192x1024, .f32⟩
  | 21 => ⟨S2x8192x1024, .f32⟩
  | 22 => ⟨S2x8192x2304, .f32⟩
  | 23 => ⟨S2x8192x512, .f32⟩
  | 24 => ⟨S2x8192x128, .f32⟩
  | 25 => ⟨S2x8192x128, .f32⟩
  | 26 => ⟨S2x8192x512, .f32⟩
  | 27 => ⟨S2x8192x512, .f32⟩
  | 28 => ⟨S2x8192x512, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S8, .f32⟩
  | 37 => ⟨S_, .f32⟩
  | 38 => ⟨S8, .f32⟩
  | 39 => ⟨S8, .f32⟩
  | 40 => ⟨S_, .f32⟩
  | 41 => ⟨S8, .f32⟩
  | 42 => ⟨S8, .f32⟩
  | 43 => ⟨S8192, .f32⟩
  | 44 => ⟨S8192x1, .f32⟩
  | 45 => ⟨S1x8, .f32⟩
  | 46 => ⟨S8192x8, .f32⟩
  | 47 => ⟨S8192x8, .f32⟩
  | 48 => ⟨S8192x8, .f32⟩
  | 49 => ⟨S8192x8, .f32⟩
  | 50 => ⟨S8192x1x8, .f32⟩
  | 51 => ⟨S8192x8, .f32⟩
  | 52 => ⟨S8192x1x8, .f32⟩
  | 53 => ⟨S2x8192x8x64, .f32⟩
  | 54 => ⟨S2x8192x8x16, .f32⟩
  | 55 => ⟨S2x8192x8x8, .f32⟩
  | 56 => ⟨S2x8192x8x8, .f32⟩
  | 57 => ⟨S1x8192x1x8, .f32⟩
  | 58 => ⟨S2x8192x8x8, .f32⟩
  | 59 => ⟨S2x8192x8x8, .f32⟩
  | 60 => ⟨S1x8192x1x8, .f32⟩
  | 61 => ⟨S2x8192x8x8, .f32⟩
  | 62 => ⟨S2x8192x8x8, .f32⟩
  | 63 => ⟨S2x8192x8x8, .f32⟩
  | 64 => ⟨S1x8192x1x8, .f32⟩
  | 65 => ⟨S2x8192x8x8, .f32⟩
  | 66 => ⟨S2x8192x8x8, .f32⟩
  | 67 => ⟨S1x8192x1x8, .f32⟩
  | 68 => ⟨S2x8192x8x8, .f32⟩
  | 69 => ⟨S2x8192x8x8, .f32⟩
  | 70 => ⟨S2x8192x8x8, .f32⟩
  | 71 => ⟨S2x8192x8x16, .f32⟩
  | 72 => ⟨S2x8192x8x48, .f32⟩
  | 73 => ⟨S2x8192x8x64, .f32⟩
  | 74 => ⟨S2x8192x2x4x64, .f32⟩
  | 75 => ⟨S2x8192x2x64, .f32⟩
  | 76 => ⟨S2x8192x2x16, .f32⟩
  | 77 => ⟨S2x8192x2x8, .f32⟩
  | 78 => ⟨S2x8192x2x8, .f32⟩
  | 79 => ⟨S1x8192x1x8, .f32⟩
  | 80 => ⟨S2x8192x2x8, .f32⟩
  | 81 => ⟨S2x8192x2x8, .f32⟩
  | 82 => ⟨S1x8192x1x8, .f32⟩
  | 83 => ⟨S2x8192x2x8, .f32⟩
  | 84 => ⟨S2x8192x2x8, .f32⟩
  | 85 => ⟨S2x8192x2x8, .f32⟩
  | 86 => ⟨S1x8192x1x8, .f32⟩
  | 87 => ⟨S2x8192x2x8, .f32⟩
  | 88 => ⟨S2x8192x2x8, .f32⟩
  | 89 => ⟨S1x8192x1x8, .f32⟩
  | 90 => ⟨S2x8192x2x8, .f32⟩
  | 91 => ⟨S2x8192x2x8, .f32⟩
  | 92 => ⟨S2x8192x2x8, .f32⟩
  | 93 => ⟨S2x8192x2x16, .f32⟩
  | 94 => ⟨S2x8192x2x48, .f32⟩
  | 95 => ⟨S2x8192x2x64, .f32⟩
  | 96 => ⟨S2x8192x2x64, .f32⟩
  | 97 => ⟨S2x8192x8x64, .f32⟩
  | 98 => ⟨S2x8192x8x16, .f32⟩
  | 99 => ⟨S2x8192x8x8, .f32⟩
  | 100 => ⟨S2x8192x8x8, .f32⟩
  | 101 => ⟨S1x8192x1x8, .f32⟩
  | 102 => ⟨S2x8192x8x8, .f32⟩
  | 103 => ⟨S2x8192x8x8, .f32⟩
  | 104 => ⟨S1x8192x1x8, .f32⟩
  | 105 => ⟨S2x8192x8x8, .f32⟩
  | 106 => ⟨S2x8192x8x8, .f32⟩
  | 107 => ⟨S2x8192x8x8, .f32⟩
  | 108 => ⟨S1x8192x1x8, .f32⟩
  | 109 => ⟨S2x8192x8x8, .f32⟩
  | 110 => ⟨S2x8192x8x8, .f32⟩
  | 111 => ⟨S1x8192x1x8, .f32⟩
  | 112 => ⟨S2x8192x8x8, .f32⟩
  | 113 => ⟨S2x8192x8x8, .f32⟩
  | 114 => ⟨S2x8192x8x8, .f32⟩
  | 115 => ⟨S2x8192x8x16, .f32⟩
  | 116 => ⟨S2x8192x8x48, .f32⟩
  | 117 => ⟨S2x8192x8x64, .f32⟩
  | 118 => ⟨S2x8192x8x64, .f32⟩
  | 119 => ⟨S2x8192x8x16, .f32⟩
  | 120 => ⟨S2x8192x8x8, .f32⟩
  | 121 => ⟨S2x8192x8x8, .f32⟩
  | 122 => ⟨S1x8192x1x8, .f32⟩
  | 123 => ⟨S2x8192x8x8, .f32⟩
  | 124 => ⟨S2x8192x8x8, .f32⟩
  | 125 => ⟨S1x8192x1x8, .f32⟩
  | 126 => ⟨S2x8192x8x8, .f32⟩
  | 127 => ⟨S2x8192x8x8, .f32⟩
  | _ => ⟨S2x8192x1024, .f32⟩

abbrev hbmTy0_1 (i : Nat) : BufTy := match i % 128 with
  | 0 => ⟨S2x8192x8x8, .f32⟩
  | 1 => ⟨S1x8192x1x8, .f32⟩
  | 2 => ⟨S2x8192x8x8, .f32⟩
  | 3 => ⟨S2x8192x8x8, .f32⟩
  | 4 => ⟨S1x8192x1x8, .f32⟩
  | 5 => ⟨S2x8192x8x8, .f32⟩
  | 6 => ⟨S2x8192x8x8, .f32⟩
  | 7 => ⟨S2x8192x8x8, .f32⟩
  | 8 => ⟨S2x8192x8x16, .f32⟩
  | 9 => ⟨S2x8192x8x48, .f32⟩
  | 10 => ⟨S2x8192x8x64, .f32⟩
  | 11 => ⟨S2x8192x8x64, .f32⟩
  | 12 => ⟨S16384x512, .f32⟩
  | 13 => ⟨S16384x128, .f32⟩
  | 14 => ⟨S16384x128, .f32⟩
  | 15 => ⟨S16384x256, .f32⟩
  | 16 => ⟨S16384x512, .f32⟩
  | 17 => ⟨S16384x512, .f32⟩
  | 18 => ⟨S16384x512, .f32⟩
  | 19 => ⟨S16384x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩

abbrev nD : Nat := 1
abbrev τ : Topo := Topo.v7x

variable {F : FTy → Type} [FloatOps F]
-- ==== Proof.KTrip.lean ====
/-
  One trip of the attention kernel's block loop, run once at a symbolic trip.
-/
module

public import proofs.«01_k».proof.Proof.Gen.KernelIdeal.Frame
public import proofs.«01_k».proof.Proof.Gen.KernelIdeal.Loops

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg3 : Memref sig .tc .vmem S1x2048x128 .f32) (harg3 : arg3.IsWhole)
  (arg4 : Memref sig .tc .vmem S1x2048x256 .f32) (harg4 : arg4.IsWhole)
  (arg5 : Memref sig .tc .vmem S1x2048x256 .f32) (harg5 : arg5.IsWhole)
  (arg6 : Memref sig .tc .vmem S1x2048x128 .f32) (harg6 : arg6.IsWhole)
  (arg7 : Memref sig .tc .vmem S1x2048x128 .f32) (harg7 : arg7.IsWhole)
  (arg8 : Memref sig .tc .vmem S1x2048x128 .f32) (harg8 : arg8.IsWhole)
  (arg9 : Memref sig .tc .vmem S1x2048x128 .f32) (harg9 : arg9.IsWhole)
  (arg10 : Memref sig .tc .vmem S1x2048x128 .f32) (harg10 : arg10.IsWhole)
  (arg11 : Memref sig .tc .vmem S1x128 .f32) (harg11 : arg11.IsWhole)
  (arg12 : Memref sig .tc .vmem S1x2048x128 .f32) (harg12 : arg12.IsWhole)
  (arg13 : Memref sig .tc .vmem S1x2048x128 .f32) (harg13 : arg13.IsWhole)
  (arg14 : Memref sig .tc .vmem S4096x256 .f32) (harg14 : arg14.IsWhole)
  (arg15 : Memref sig .tc .vmem S4096x128 .f32) (harg15 : arg15.IsWhole)
  (arg16 : Memref sig .tc .vmem S4096x128 .f32) (harg16 : arg16.IsWhole)
  (arg17 : Memref sig .tc .vmem S3x2048x128 .f32) (harg17 : arg17.IsWhole)
  (arg18 : Memref sig .tc .vmem S3x2048x128 .f32) (harg18 : arg18.IsWhole)
  (arg19 : Memref sig .tc .vmem S2x128x256 .f32) (harg19 : arg19.IsWhole)
  (arg1 arg2 : BitVec 32) (v61 : FVec F S2048x128 .f32) (v62 : Vec F S2048x128 .f32) (v86 : BitVec 32)
  (v95 : Vec F S1x128 .f32)

/-! ## The values of one trip, from the loaded blocks -/

/-- The banded attention block of the sliding-window heads: the stored block. -/
def tA (arg1 v86 : BitVec 32) (v95 : Vec F S1x128 .f32) (b : Vec F S1x128x256 .f32) (q : Vec F S1x128x128 .f32) (kv : Vec F S256x256 .f32) :
    FVec F S1x128x128 .f32 :=
  k0_pay18 k0_pay80
    (k0_pay12 k0_pay79 v86 (k0_pay82 v95) (k0_pay5 (k0_pay81 arg1) kv) k0_pay7 (k0_pay9 v86 (k0_pay81 arg1) b q kv)
      (k0_pay10 v86 (k0_pay81 arg1) b q kv) (k0_pay11 v86 (k0_pay81 arg1) b q kv))
    (k0_pay16 v86 (k0_pay81 arg1) (k0_pay2 b) (k0_pay3 q) (k0_pay4 kv) (k0_pay5 (k0_pay81 arg1) kv) (k0_pay6 q))
    (k0_pay17 v86 (k0_pay81 arg1) (k0_pay82 v95) (k0_pay2 b) (k0_pay3 q) (k0_pay4 kv) (k0_pay6 q))

/-- The dilation-1 branch's attention block. -/
def tO0 (b : Vec F S1x128x256 .f32) (q : Vec F S1x128x128 .f32) (kk vv : Vec F S256x128 .f32) : FVec F S128x128 .f32 :=
  k0_pay33 k0_pay80 (k0_pay19 b) (k0_pay20 q) kk vv k0_pay21 (k0_pay26 k0_pay79 b q kk) (k0_pay27 k0_pay79 b q kk)
    (k0_pay28 k0_pay79 vv) (constant S128x128 .f32 0x00000000#32)
/-- The dilation-1 branch's log-sum-exp block. -/
def tL0 (b : Vec F S1x128x256 .f32) (q : Vec F S1x128x128 .f32) (kk : Vec F S256x128 .f32) : FVec F S128x128 .f32 :=
  k0_pay34 k0_pay79 k0_pay80 (k0_pay19 b) (k0_pay20 q) kk k0_pay22 (k0_pay24 k0_pay79 b q kk) (k0_pay26 k0_pay79 b q kk)
/-- The dilation-4 branch's attention block. -/
def tO1 (b : Vec F S1x128x256 .f32) (q : Vec F S1x128x128 .f32) (kk vv : Vec F S256x128 .f32) : FVec F S128x128 .f32 :=
  k0_pay50 k0_pay80 (k0_pay37 b) (k0_pay38 q) kk vv k0_pay39 (k0_pay45 k0_pay79 b q kk vv)
/-- The dilation-4 branch's log-sum-exp block. -/
def tL1 (b : Vec F S1x128x256 .f32) (q : Vec F S1x128x128 .f32) (kk : Vec F S256x128 .f32) : FVec F S128x128 .f32 :=
  k0_pay51 k0_pay79 k0_pay80 (k0_pay37 b) (k0_pay38 q) kk k0_pay40 (k0_pay42 k0_pay79 b q kk) (k0_pay44 k0_pay79 b q kk)
/-- The dilation-16 branch's attention block, as stored. -/
def tO2 (b : Vec F S1x128x256 .f32) (q : Vec F S1x128x128 .f32) (kk vv : Vec F S256x128 .f32) : FVec F S1x128x128 .f32 :=
  k0_pay69 k0_pay80 (k0_pay54 b) (k0_pay55 q) kk vv (k0_pay61 k0_pay79 b q kk vv)
/-- The dilation-16 branch's log-sum-exp block. -/
def tL2 (b : Vec F S1x128x256 .f32) (q : Vec F S1x128x128 .f32) (kk : Vec F S256x128 .f32) : FVec F S128x128 .f32 :=
  k0_pay68 k0_pay80 (k0_pay54 b) (k0_pay55 q) kk k0_pay56 (k0_pay62 k0_pay79 b q kk) (Scalar.ofBits .f32 0x00000000#32) (k0_pay63 k0_pay79)

/-- The rectangle of a plane's rows that a trip stores, one per dilation. -/
abbrev r0 (k : Fin k0_t1_loop.trips) : Rect S3x2048x128 := Rect.unit (s := S3x2048x128) (k0_off7 k) S1x128x128.size (k0_off7_inb k)
abbrev r1 (k : Fin k0_t1_loop.trips) : Rect S3x2048x128 := ⟨(⟨k0_off10 k, S1x128x128.size, ![1, 4, 1], k0_off10_inb k⟩ : LoadRect S3x2048x128), spos_1_4_1⟩
abbrev r2 (k : Fin k0_t1_loop.trips) : Rect S3x2048x128 := ⟨(⟨k0_off13 k, S1x128x128.size, ![1, 16, 1], k0_off13_inb k⟩ : LoadRect S3x2048x128), spos_1_16_1⟩
abbrev rA (k : Fin k0_t1_loop.trips) : Rect S1x2048x128 := Rect.unit (s := S1x2048x128) (k0_off2 k) S1x128x128.size (k0_off2_inb k)

/-- The loads of a trip. -/
abbrev lbA (i : grid0.Coords) (k : Fin k0_t1_loop.trips) : LoadRect S2x128x256 := (Rect.unit (s := S2x128x256) (k0_off1 i k) S1x128x256.size (k0_off1_inb i k)).toLoadRect
abbrev lb0 (i : grid0.Coords) (k : Fin k0_t1_loop.trips) : LoadRect S2x128x256 := (Rect.unit (s := S2x128x256) (k0_off4 i k 1#32) S1x128x256.size (k0_off4_inb i k 0)).toLoadRect
abbrev lb1 (i : grid0.Coords) (k : Fin k0_t1_loop.trips) : LoadRect S2x128x256 := (Rect.unit (s := S2x128x256) (k0_off4 i k 4#32) S1x128x256.size (k0_off4_inb i k 1)).toLoadRect
abbrev lb2 (i : grid0.Coords) (k : Fin k0_t1_loop.trips) : LoadRect S2x128x256 := (Rect.unit (s := S2x128x256) (k0_off4 i k 16#32) S1x128x256.size (k0_off4_inb i k 2)).toLoadRect
abbrev lqA (k : Fin k0_t1_loop.trips) : LoadRect S1x2048x128 := (rA k).toLoadRect
abbrev lq0 (k : Fin k0_t1_loop.trips) : LoadRect S1x2048x128 := (Rect.unit (s := S1x2048x128) (k0_off5 k) S1x128x128.size (k0_off5_inb k)).toLoadRect
abbrev lq1 (k : Fin k0_t1_loop.trips) : LoadRect S1x2048x128 := ⟨k0_off8 k, S1x128x128.size, ![1, 4, 1], k0_off8_inb k⟩
abbrev lq2 (k : Fin k0_t1_loop.trips) : LoadRect S1x2048x128 := ⟨k0_off11 k, S1x128x128.size, ![1, 16, 1], k0_off11_inb k⟩
abbrev lkA (k : Fin k0_t1_loop.trips) : LoadRect S4096x256 := (Rect.unit (s := S4096x256) (k0_off3 k) S256x256.size (k0_off3_inb k)).toLoadRect
abbrev lk0 (k : Fin k0_t1_loop.trips) : LoadRect S4096x128 := (Rect.unit (s := S4096x128) (k0_off6 k) S256x128.size (k0_off6_inb k)).toLoadRect
abbrev lk1 (k : Fin k0_t1_loop.trips) : LoadRect S4096x128 := ⟨k0_off9 k, S256x128.size, ![4, 1], k0_off9_inb k⟩
abbrev lk2 (k : Fin k0_t1_loop.trips) : LoadRect S4096x128 := ⟨k0_off12 k, S256x128.size, ![16, 1], k0_off12_inb k⟩

/-- The buffers one trip touches, each whole at some contents. -/
abbrev Trip (X3 : Buf (Elt F) (arg3.view.loc (c : Thread nD τ))) (X6 : Buf (Elt F) (arg6.view.loc (c : Thread nD τ)))
    (X14 : Buf (Elt F) (arg14.view.loc (c : Thread nD τ))) (X15 : Buf (Elt F) (arg15.view.loc (c : Thread nD τ)))
    (X16 : Buf (Elt F) (arg16.view.loc (c : Thread nD τ))) (X19 : Buf (Elt F) (arg19.view.loc (c : Thread nD τ)))
    (f12 : Buf (Elt F) (arg12.view.loc (c : Thread nD τ))) (f17 : Buf (Elt F) (arg17.view.loc (c : Thread nD τ)))
    (f18 : Buf (Elt F) (arg18.view.loc (c : Thread nD τ))) : sProp 𝕄 :=
  iprop((arg3.view.loc (c : Thread nD τ) ↦[arg3.view.set]{fullShare} X3)
    ∗ (arg6.view.loc (c : Thread nD τ) ↦[arg6.view.set]{fullShare} X6)
    ∗ (arg14.view.loc (c : Thread nD τ) ↦[arg14.view.set]{fullShare} X14)
    ∗ (arg15.view.loc (c : Thread nD τ) ↦[arg15.view.set]{fullShare} X15)
    ∗ (arg16.view.loc (c : Thread nD τ) ↦[arg16.view.set]{fullShare} X16)
    ∗ (arg19.view.loc (c : Thread nD τ) ↦[arg19.view.set]{fullShare} X19)
    ∗ (arg12.view.loc (c : Thread nD τ) ↦[arg12.view.set]{fullShare} f12)
    ∗ (arg17.view.loc (c : Thread nD τ) ↦[arg17.view.set]{fullShare} f17)
    ∗ (arg18.view.loc (c : Thread nD τ) ↦[arg18.view.set]{fullShare} f18))

/-- What a load reads of a block. -/
abbrev rd {s : Shape} {e : EltTy} (x : Vec F s e) (B : LoadRect s) : B.shape.Idx → Elt F e := fun j => x (B.idx j)

section Pieces

variable (i : grid0.Coords) (arg1 v86 : BitVec 32) (v95 : Vec F S1x128 .f32)
  (b : Vec F S2x128x256 .f32) (q : Vec F S1x2048x128 .f32) (kv : Vec F S4096x256 .f32) (kk vv : Vec F S4096x128 .f32)

/-- What a trip stores into the first result's block. -/
def L12 (k : Fin k0_t1_loop.trips) : List (View.Piece (Elt F) S1x2048x128 .f32) :=
  [⟨rA k, tA arg1 v86 v95 (rd b (lbA i k)) (rd q (lqA k)) (rd kv (lkA k))⟩]

/-- What a trip stores into the branches' outputs. -/
def L17 (k : Fin k0_t1_loop.trips) : List (View.Piece (Elt F) S3x2048x128 .f32) :=
  [⟨r2 k, tO2 (rd b (lb2 i k)) (rd q (lq2 k)) (rd kk (lk2 k)) (rd vv (lk2 k))⟩,
   ⟨r1 k, k0_pay52 (tO1 (rd b (lb1 i k)) (rd q (lq1 k)) (rd kk (lk1 k)) (rd vv (lk1 k)))⟩,
   ⟨r0 k, k0_pay35 (tO0 (rd b (lb0 i k)) (rd q (lq0 k)) (rd kk (lk0 k)) (rd vv (lk0 k)))⟩]

/-- What a trip stores into the branches' log-sum-exps. -/
def L18 (k : Fin k0_t1_loop.trips) : List (View.Piece (Elt F) S3x2048x128 .f32) :=
  [⟨r2 k, k0_pay83 (tL2 (rd b (lb2 i k)) (rd q (lq2 k)) (rd kk (lk2 k)))⟩,
   ⟨r1 k, k0_pay53 (tL1 (rd b (lb1 i k)) (rd q (lq1 k)) (rd kk (lk1 k)))⟩,
   ⟨r0 k, k0_pay36 (tL0 (rd b (lb0 i k)) (rd q (lq0 k)) (rd kk (lk0 k)))⟩]

end Pieces

/-- The pieces stored by the trips before `n`. -/
def before {s : Shape} {e : EltTy} (L : Fin k0_t1_loop.trips → List (View.Piece (Elt F) s e)) : ℕ → List (View.Piece (Elt F) s e)
  | 0 => []
  | n + 1 => if h : n < k0_t1_loop.trips then L ⟨n, h⟩ ++ before L n else before L n

theorem before_succ {s : Shape} {e : EltTy} (L : Fin k0_t1_loop.trips → List (View.Piece (Elt F) s e)) (k : Fin k0_t1_loop.trips) :
    before L (k.val + 1) = L k ++ before L k.val := by
  rw [before, dif_pos k.isLt]

/-- A trip's piece is among those of all the trips. -/
theorem mem_before {s : Shape} {e : EltTy} (L : Fin k0_t1_loop.trips → List (View.Piece (Elt F) s e)) (p : View.Piece (Elt F) s e) :
    ∀ n : ℕ, p ∈ before L n ↔ ∃ k : Fin k0_t1_loop.trips, k.val < n ∧ p ∈ L k
  | 0 => by simp [before]
  | n + 1 => by
    rw [before]
    split
    · rename_i h
      rw [List.mem_append, mem_before L p n]
      constructor
      · rintro (hp | ⟨k, hk, hp⟩)
        · exact ⟨⟨n, h⟩, Nat.lt_succ_self n, hp⟩
        · exact ⟨k, Nat.lt_succ_of_lt hk, hp⟩
      · rintro ⟨k, hk, hp⟩
        by_cases hkn : k.val = n
        · have : k = ⟨n, h⟩ := Fin.ext hkn
          subst this; exact .inl hp
        · exact .inr ⟨k, by omega, hp⟩
    · rename_i h
      rw [mem_before L p n]
      constructor
      · rintro ⟨k, hk, hp⟩; exact ⟨k, Nat.lt_succ_of_lt hk, hp⟩
      · rintro ⟨k, hk, hp⟩; exact ⟨k, by have := k.isLt; omega, hp⟩

section Explicit

variable (X3 : Buf (Elt F) (arg3.view.loc (c : Thread nD τ))) (X6 : Buf (Elt F) (arg6.view.loc (c : Thread nD τ)))
    (X14 : Buf (Elt F) (arg14.view.loc (c : Thread nD τ))) (X15 : Buf (Elt F) (arg15.view.loc (c : Thread nD τ)))
    (X16 : Buf (Elt F) (arg16.view.loc (c : Thread nD τ))) (X19 : Buf (Elt F) (arg19.view.loc (c : Thread nD τ)))
    (k : Fin k0_t1_loop.trips)

set_option maxHeartbeats 4000000 in
@[irreducible] def trip :
    Σ' (M12 : List (View.Piece (Elt F) S1x2048x128 .f32)) (M17 : List (View.Piece (Elt F) S3x2048x128 .f32)),
      {M18 : List (View.Piece (Elt F) S3x2048x128 .f32) //
       ∀ (f12 : Buf (Elt F) (arg12.view.loc (c : Thread nD τ))) (f17 : Buf (Elt F) (arg17.view.loc (c : Thread nD τ)))
        (f18 : Buf (Elt F) (arg18.view.loc (c : Thread nD τ))),
        Trip c arg3 arg6 arg12 arg14 arg15 arg16 arg17 arg18 arg19 X3 X6 X14 X15 X16 X19 f12 f17 f18
          ⊢ wp frame (wpE (defs₀ (F := F)) Variants.none (c : Thread nD τ) none) Set.univ
            (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 arg2 v61 v62 v86 v95 k ())
            (fun _ => Trip c arg3 arg6 arg12 arg14 arg15 arg16 arg17 arg18 arg19 X3 X6 X14 X15 X16 X19
              (arg12.view.writes (Elt F) f12 M12) (arg17.view.writes (Elt F) f17 M17) (arg18.view.writes (Elt F) f18 M18))} := by
  refine ⟨?_, ?_, ?_, fun f12 f17 f18 => ?run⟩
  case run =>
    unfold k0_t1_body
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton, k0_part11_eq_skeleton]
    unfold Trip
    iintro ⟨H3, H6, H14, H15, H16, H19, H12, H17, H18⟩
    sl_exec
    sl_step
    sl_close

set_option maxHeartbeats 4000000 in
theorem trip_12 : (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 arg2 v61 v62 v86 v95 X3 X6 X14 X15 X16 X19 k).1
    = L12 i arg1 v86 v95 (arg19.view.read (Elt F) X19) (arg3.view.read (Elt F) X3) (arg14.view.read (Elt F) X14) k := by
  unfold trip
  dsimp only
  sl_unfold_words
  unfold L12 tA
  rfl

set_option maxHeartbeats 4000000 in
theorem trip_17 : (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 arg2 v61 v62 v86 v95 X3 X6 X14 X15 X16 X19 k).2.1
    = L17 i (arg19.view.read (Elt F) X19) (arg6.view.read (Elt F) X6) (arg15.view.read (Elt F) X15) (arg16.view.read (Elt F) X16) k := by
  unfold trip
  dsimp only
  sl_unfold_words
  unfold L17 tO0 tO1 tO2
  rfl

set_option maxHeartbeats 4000000 in
theorem trip_18 : (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 arg2 v61 v62 v86 v95 X3 X6 X14 X15 X16 X19 k).2.2.1
    = L18 i (arg19.view.read (Elt F) X19) (arg6.view.read (Elt F) X6) (arg15.view.read (Elt F) X15) k := by
  unfold trip
  dsimp only
  sl_unfold_words
  unfold L18 tL0 tL1 tL2
  rfl

set_option maxHeartbeats 4000000 in
theorem trip_run (f12 : Buf (Elt F) (arg12.view.loc (c : Thread nD τ))) (f17 : Buf (Elt F) (arg17.view.loc (c : Thread nD τ)))
    (f18 : Buf (Elt F) (arg18.view.loc (c : Thread nD τ))) :
    Trip c arg3 arg6 arg12 arg14 arg15 arg16 arg17 arg18 arg19 X3 X6 X14 X15 X16 X19 f12 f17 f18
      ⊢ wp frame (wpE (defs₀ (F := F)) Variants.none (c : Thread nD τ) none) Set.univ
        (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 arg2 v61 v62 v86 v95 k ())
        (fun _ => Trip c arg3 arg6 arg12 arg14 arg15 arg16 arg17 arg18 arg19 X3 X6 X14 X15 X16 X19
          (arg12.view.writes (Elt F) f12 (L12 i arg1 v86 v95 (arg19.view.read (Elt F) X19) (arg3.view.read (Elt F) X3) (arg14.view.read (Elt F) X14) k))
          (arg17.view.writes (Elt F) f17 (L17 i (arg19.view.read (Elt F) X19) (arg6.view.read (Elt F) X6) (arg15.view.read (Elt F) X15) (arg16.view.read (Elt F) X16) k))
          (arg18.view.writes (Elt F) f18 (L18 i (arg19.view.read (Elt F) X19) (arg6.view.read (Elt F) X6) (arg15.view.read (Elt F) X15) k))) := by
  rw [← trip_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 arg2 v61 v62 v86 v95 X3 X6 X14 X15 X16 X19 k, ← trip_17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 arg2 v61 v62 v86 v95 X3 X6 X14 X15 X16 X19 k, ← trip_18 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 arg2 v61 v62 v86 v95 X3 X6 X14 X15 X16 X19 k]
  exact (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 arg2 v61 v62 v86 v95 X3 X6 X14 X15 X16 X19 k).2.2.2 f12 f17 f18

variable (G12 : Buf (Elt F) (arg12.view.loc (c : Thread nD τ))) (G17 : Buf (Elt F) (arg17.view.loc (c : Thread nD τ)))
  (G18 : Buf (Elt F) (arg18.view.loc (c : Thread nD τ)))

/-- The resources before trip `n`: the three written buffers hold the earlier trips' pieces over what they held at entry. -/
abbrev invAt (n : ℕ) : sProp 𝕄 :=
  iprop((arg3.view.loc (c : Thread nD τ) ↦[arg3.view.set]{fullShare} X3)
    ∗ (arg6.view.loc (c : Thread nD τ) ↦[arg6.view.set]{fullShare} X6)
    ∗ (arg14.view.loc (c : Thread nD τ) ↦[arg14.view.set]{fullShare} X14)
    ∗ (arg15.view.loc (c : Thread nD τ) ↦[arg15.view.set]{fullShare} X15)
    ∗ (arg16.view.loc (c : Thread nD τ) ↦[arg16.view.set]{fullShare} X16)
    ∗ (arg19.view.loc (c : Thread nD τ) ↦[arg19.view.set]{fullShare} X19)
    ∗ (∃ f, (arg12.view.loc (c : Thread nD τ) ↦[arg12.view.set]{fullShare} f)
        ∗ ⌜f = arg12.view.writes (Elt F) G12 (before (L12 i arg1 v86 v95 (arg19.view.read (Elt F) X19) (arg3.view.read (Elt F) X3) (arg14.view.read (Elt F) X14)) n)⌝)
    ∗ (∃ f, (arg17.view.loc (c : Thread nD τ) ↦[arg17.view.set]{fullShare} f)
        ∗ ⌜f = arg17.view.writes (Elt F) G17 (before (L17 i (arg19.view.read (Elt F) X19) (arg6.view.read (Elt F) X6) (arg15.view.read (Elt F) X15) (arg16.view.read (Elt F) X16)) n)⌝)
    ∗ (∃ f, (arg18.view.loc (c : Thread nD τ) ↦[arg18.view.set]{fullShare} f)
        ∗ ⌜f = arg18.view.writes (Elt F) G18 (before (L18 i (arg19.view.read (Elt F) X19) (arg6.view.read (Elt F) X6) (arg15.view.read (Elt F) X15)) n)⌝))

set_option warn.classDefReducibility false in
set_option maxHeartbeats 4000000 in
/-- The loop's invariant. -/
@[sl_loop] def loopInv_k0_t1 :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 arg2 v61 v62 v86 v95 where
  inv n _ := invAt c i arg3 arg6 arg12 arg14 arg15 arg16 arg17 arg18 arg19 arg1 v86 v95 X3 X6 X14 X15 X16 X19 G12 G17 G18 n
  step k _ := by
    unfold invAt
    iintro ⟨H3, H6, H14, H15, H16, H19, ⟨%f12, H12, %h12⟩, ⟨%f17, H17, %h17⟩, ⟨%f18, H18, %h18⟩⟩
    iapply (wp_wand_r Idealize.ShloMosaic.frame (wpE (defs₀ (F := F)) Variants.none (c : Thread nD τ) none) Set.univ)
    isplitl [H3 H6 H14 H15 H16 H19 H12 H17 H18]
    · iapply (trip_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 arg2 v61 v62 v86 v95 X3 X6 X14 X15 X16 X19 k f12 f17 f18)
      unfold Trip
      isplitl [H3]; · iexact H3
      isplitl [H6]; · iexact H6
      isplitl [H14]; · iexact H14
      isplitl [H15]; · iexact H15
      isplitl [H16]; · iexact H16
      isplitl [H19]; · iexact H19
      isplitl [H12]; · iexact H12
      isplitl [H17]; · iexact H17
      iexact H18
    · unfold Trip
      iintro %_ ⟨H3, H6, H14, H15, H16, H19, H12, H17, H18⟩
      isplitl [H3]; · iexact H3
      isplitl [H6]; · iexact H6
      isplitl [H14]; · iexact H14
      isplitl [H15]; · iexact H15
      isplitl [H16]; · iexact H16
      isplitl [H19]; · iexact H19
      isplitl [H12]
      · iexists _; isplitl [H12]; · iexact H12
        ipureintro; rw [before_succ, h12, ← View.writes_append]
      isplitl [H17]
      · iexists _; isplitl [H17]; · iexact H17
        ipureintro; rw [before_succ, h17, ← View.writes_append]
      iexists _; isplitl [H18]; · iexact H18
      ipureintro; rw [before_succ, h18, ← View.writes_append]

end Explicit

end Cert.KernelIdeal.Attn

end
-- ==== Proof.KBody.lean ====
/-
  The attention kernel's body at a grid point: what it leaves in the two results' blocks.
-/
module

public import proofs.«01_k».proof.Proof.KTrip

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## Where the trips write -/

theorem off2_eq : ∀ k : Fin k0_t1_loop.trips, k0_off2 k 0 = 0 ∧ k0_off2 k 1 = 128 * k.val ∧ k0_off2 k 2 = 0 := by decide +kernel
theorem off7_eq : ∀ k : Fin k0_t1_loop.trips, k0_off7 k 0 = 0 ∧ k0_off7 k 1 = 128 * k.val ∧ k0_off7 k 2 = 0 := by decide +kernel
theorem off10_eq : ∀ k : Fin k0_t1_loop.trips,
    k0_off10 k 0 = 1 ∧ k0_off10 k 1 = 512 * (k.val / 4) + k.val % 4 ∧ k0_off10 k 2 = 0 := by decide +kernel
theorem off13_eq : ∀ k : Fin k0_t1_loop.trips, k0_off13 k 0 = 2 ∧ k0_off13 k 1 = k.val ∧ k0_off13 k 2 = 0 := by decide +kernel
theorem trips_eq : k0_t1_loop.trips = 16 := by decide +kernel

/-- A row of the first result's block lies in the rectangle of the trip that computes it. -/
theorem mem_rA (y : S1x2048x128.Idx) (k : Fin k0_t1_loop.trips) (h : (y 1).val / 128 = k.val) : y ∈ (rA k).set := by
  obtain ⟨h0, h1, h2⟩ := off2_eq k
  refine Rect.mem_set_unit.2 fun a => ?_
  fin_cases a
  · have := (y 0).isLt; show k0_off2 k 0 ≤ (y 0).val ∧ (y 0).val < k0_off2 k 0 + 1; change (y 0).val < 1 at this; omega
  · show k0_off2 k 1 ≤ (y 1).val ∧ (y 1).val < k0_off2 k 1 + 128; omega
  · have := (y 2).isLt; show k0_off2 k 2 ≤ (y 2).val ∧ (y 2).val < k0_off2 k 2 + 128; change (y 2).val < 128 at this; omega

theorem mem_r0 (y : S3x2048x128.Idx) (hy : (y 0).val = 0) (k : Fin k0_t1_loop.trips) (h : (y 1).val / 128 = k.val) : y ∈ (r0 k).set := by
  obtain ⟨h0, h1, h2⟩ := off7_eq k
  refine Rect.mem_set_unit.2 fun a => ?_
  fin_cases a
  · show k0_off7 k 0 ≤ (y 0).val ∧ (y 0).val < k0_off7 k 0 + 1; omega
  · show k0_off7 k 1 ≤ (y 1).val ∧ (y 1).val < k0_off7 k 1 + 128; omega
  · have := (y 2).isLt; show k0_off7 k 2 ≤ (y 2).val ∧ (y 2).val < k0_off7 k 2 + 128; change (y 2).val < 128 at this; omega

theorem mem_r1 (y : S3x2048x128.Idx) (hy : (y 0).val = 1) (k : Fin k0_t1_loop.trips)
    (h : (y 1).val / 512 = k.val / 4) (h' : (y 1).val % 4 = k.val % 4) : y ∈ (r1 k).set := by
  obtain ⟨h0, h1, h2⟩ := off10_eq k
  refine (LoadRect.mem_set _).mpr fun a => ?_
  fin_cases a
  · exact ⟨0, Nat.one_pos, by show (y 0).val = k0_off10 k 0 + 1 * 0; omega⟩
  · exact ⟨(y 1).val % 512 / 4, by show _ < 128; omega, by show (y 1).val = k0_off10 k 1 + 4 * _; omega⟩
  · exact ⟨(y 2).val, (y 2).isLt, by show (y 2).val = k0_off10 k 2 + 1 * _; omega⟩

theorem mem_r2 (y : S3x2048x128.Idx) (hy : (y 0).val = 2) (k : Fin k0_t1_loop.trips)
    (h : (y 1).val % 16 = k.val) : y ∈ (r2 k).set := by
  obtain ⟨h0, h1, h2⟩ := off13_eq k
  have hb : (y 1).val < 2048 := (y 1).isLt
  refine (LoadRect.mem_set _).mpr fun a => ?_
  fin_cases a
  · exact ⟨0, Nat.one_pos, by show (y 0).val = k0_off13 k 0 + 1 * 0; omega⟩
  · exact ⟨(y 1).val / 16, by show _ < 128; omega, by show (y 1).val = k0_off13 k 1 + 16 * _; omega⟩
  · exact ⟨(y 2).val, (y 2).isLt, by show (y 2).val = k0_off13 k 2 + 1 * _; omega⟩

/-- The trips' pieces over the three planes cover them. -/
theorem cover3 (L : Fin k0_t1_loop.trips → List (View.Piece (Elt F) S3x2048x128 .f32))
    (h0 : ∀ k, ∃ v, (⟨r0 k, v⟩ : View.Piece (Elt F) S3x2048x128 .f32) ∈ L k)
    (h1 : ∀ k, ∃ v, (⟨r1 k, v⟩ : View.Piece (Elt F) S3x2048x128 .f32) ∈ L k)
    (h2 : ∀ k, ∃ v, (⟨r2 k, v⟩ : View.Piece (Elt F) S3x2048x128 .f32) ∈ L k)
    (y : S3x2048x128.Idx) : ∃ p ∈ before L k0_t1_loop.trips, y ∈ p.1.set := by
  have hy0 : (y 0).val < 3 := (y 0).isLt
  have hy1 : (y 1).val < 2048 := (y 1).isLt
  have ht := trips_eq
  have key : ∀ (k : Fin k0_t1_loop.trips) (p : View.Piece (Elt F) S3x2048x128 .f32), p ∈ L k → y ∈ p.1.set →
      ∃ p ∈ before L k0_t1_loop.trips, y ∈ p.1.set :=
    fun k p hp hm => ⟨p, (mem_before L p _).2 ⟨k, k.isLt, hp⟩, hm⟩
  obtain h | h | h : (y 0).val = 0 ∨ (y 0).val = 1 ∨ (y 0).val = 2 := by omega
  · obtain ⟨v, hv⟩ := h0 ⟨(y 1).val / 128, by omega⟩
    exact key _ _ hv (mem_r0 y h _ rfl)
  · obtain ⟨v, hv⟩ := h1 ⟨4 * ((y 1).val / 512) + (y 1).val % 4, by omega⟩
    exact key _ _ hv (mem_r1 y h _ (by show _ = (4 * ((y 1).val / 512) + (y 1).val % 4) / 4; omega) (by show _ = (4 * ((y 1).val / 512) + (y 1).val % 4) % 4; omega))
  · obtain ⟨v, hv⟩ := h2 ⟨(y 1).val % 16, by omega⟩
    exact key _ _ hv (mem_r2 y h _ rfl)

section Covers

variable (i : grid0.Coords) (arg1 v86 : BitVec 32) (v95 : Vec F S1x128 .f32)
  (b : Vec F S2x128x256 .f32) (q : Vec F S1x2048x128 .f32) (kv : Vec F S4096x256 .f32) (kk vv : Vec F S4096x128 .f32)

theorem cover12 (y : S1x2048x128.Idx) : ∃ p ∈ before (L12 i arg1 v86 v95 b q kv) k0_t1_loop.trips, y ∈ p.1.set := by
  have hy1 : (y 1).val < 2048 := (y 1).isLt
  have ht := trips_eq
  exact ⟨_, (mem_before _ _ _).2 ⟨⟨(y 1).val / 128, by omega⟩, Fin.isLt _, List.mem_singleton.2 rfl⟩, mem_rA y _ rfl⟩

theorem cover17 (y : S3x2048x128.Idx) : ∃ p ∈ before (L17 i b q kk vv) k0_t1_loop.trips, y ∈ p.1.set :=
  cover3 _ (fun k => ⟨_, List.mem_cons_of_mem _ (List.mem_cons_of_mem _ (List.mem_singleton.2 rfl))⟩)
    (fun k => ⟨_, List.mem_cons_of_mem _ List.mem_cons_self⟩) (fun k => ⟨_, List.mem_cons_self⟩) y

theorem cover18 (y : S3x2048x128.Idx) : ∃ p ∈ before (L18 i b q kk) k0_t1_loop.trips, y ∈ p.1.set :=
  cover3 _ (fun k => ⟨_, List.mem_cons_of_mem _ (List.mem_cons_of_mem _ (List.mem_singleton.2 rfl))⟩)
    (fun k => ⟨_, List.mem_cons_of_mem _ List.mem_cons_self⟩) (fun k => ⟨_, List.mem_cons_self⟩) y

end Covers

/-! ## What the body leaves -/

abbrev bx1 : Rect S1x2048x128 := Rect.unit (s := S1x2048x128) ![0, 0, 0] S1x2048x128.size inb_S1x2048x128_S1x2048x128_0_0_0
abbrev bx2 : Rect S1x2048x256 := Rect.unit (s := S1x2048x256) ![0, 0, 0] S1x2048x256.size inb_S1x2048x256_S1x2048x256_0_0_0
abbrev bx3 : Rect S1x128 := Rect.unit (s := S1x128) ![0, 0] S1x128.size inb_S1x128_S1x128_0_0
abbrev pl0 : Rect S3x2048x128 := Rect.unit (s := S3x2048x128) ![0, 0, 0] S1x2048x128.size inb_S3x2048x128_S1x2048x128_0_0_0
abbrev pl1 : Rect S3x2048x128 := Rect.unit (s := S3x2048x128) ![1, 0, 0] S1x2048x128.size inb_S3x2048x128_S1x2048x128_1_0_0
abbrev pl2 : Rect S3x2048x128 := Rect.unit (s := S3x2048x128) ![2, 0, 0] S1x2048x128.size inb_S3x2048x128_S1x2048x128_2_0_0

/-- The two masks' planes. -/
def bias : Vec F S2x128x256 .f32 :=
  View.canon [⟨Rect.unit (s := S2x128x256) ![1, 0, 0] S1x128x256.size inb_S2x128x256_S1x128x256_1_0_0, k0_pay71⟩,
    ⟨Rect.unit (s := S2x128x256) ![0, 0, 0] S1x128x256.size inb_S2x128x256_S1x128x256_0_0_0, k0_pay70⟩]

/-- The previous block over the current one: the windowed heads' keys and values. -/
def kvA (cur prev : Vec F S1x2048x256 .f32) : Vec F S4096x256 .f32 :=
  View.canon [⟨Rect.unit (s := S4096x256) ![2048, 0] S2048x256.size inb_S4096x256_S2048x256_2048_0, k0_pay73 (View.ld cur bx2)⟩,
    ⟨Rect.unit (s := S4096x256) ![0, 0] S2048x256.size inb_S4096x256_S2048x256_0_0, k0_pay72 (View.ld prev bx2)⟩]

/-- The previous block over the current one: the dilated heads' keys. -/
def keys (cur prev : Vec F S1x2048x128 .f32) : Vec F S4096x128 .f32 :=
  View.canon [⟨Rect.unit (s := S4096x128) ![2048, 0] S2048x128.size inb_S4096x128_S2048x128_2048_0, k0_pay75 (View.ld cur bx1)⟩,
    ⟨Rect.unit (s := S4096x128) ![0, 0] S2048x128.size inb_S4096x128_S2048x128_0_0, k0_pay74 (View.ld prev bx1)⟩]

/-- The previous block over the current one: the dilated heads' values. -/
def vals (cur prev : Vec F S1x2048x128 .f32) : Vec F S4096x128 .f32 :=
  View.canon [⟨Rect.unit (s := S4096x128) ![2048, 0] S2048x128.size inb_S4096x128_S2048x128_2048_0, k0_pay78 (k0_pay77 (View.ld cur bx1))⟩,
    ⟨Rect.unit (s := S4096x128) ![0, 0] S2048x128.size inb_S4096x128_S2048x128_0_0, k0_pay76 (View.ld prev bx1)⟩]

/-- Half the head's number, rounded down: the key head the head reads. -/
def half (arg1 : BitVec 32) : BitVec 32 :=
  Scalar.select
    (Scalar.andi
      (Scalar.cmpi .ne (Scalar.subi (Scalar.extui (Scalar.cmpi .sgt arg1 0#32)) (Scalar.extui (Scalar.cmpi .slt arg1 0#32)))
        (Scalar.subi (Scalar.extui (Scalar.cmpi .sgt 2#32 0#32)) (Scalar.extui (Scalar.cmpi .slt 2#32 0#32))))
      (Scalar.cmpi .ne (Scalar.remsi arg1 2#32) 0#32))
    (Scalar.subi (Scalar.divsi arg1 2#32) 1#32) (Scalar.divsi arg1 2#32)

section Outs

variable (i : grid0.Coords) (x0 : Vec F S1x2048x128 .f32) (x1 : Vec F S1x2048x256 .f32) (x2 : Vec F S1x2048x256 .f32) (x3 : Vec F S1x2048x128 .f32) (x4 : Vec F S1x2048x128 .f32) (x5 : Vec F S1x2048x128 .f32) (x6 : Vec F S1x2048x128 .f32) (x7 : Vec F S1x2048x128 .f32) (x8 : Vec F S1x128 .f32)

/-- The first result's block. -/
def out0_9 : Vec F S1x2048x128 .f32 :=
  View.canon (before (L12 i (BitVec.ofNat 32 (i 1).val) (half (BitVec.ofNat 32 (i 1).val)) (View.ld x8 bx3) bias x0 (kvA x1 x2)) k0_t1_loop.trips)

/-- The three branches' outputs. -/
def outs : Vec F S3x2048x128 .f32 := View.canon (before (L17 i bias x3 (keys x4 x5) (vals x6 x7)) k0_t1_loop.trips)

/-- The three branches' log-sum-exps. -/
def lses : Vec F S3x2048x128 .f32 := View.canon (before (L18 i bias x3 (keys x4 x5)) k0_t1_loop.trips)

/-- The second result's block. -/
def out0_10 : Vec F S1x2048x128 .f32 :=
  View.canon [⟨bx1, k0_pay1 (k0_pay84 (View.ld (lses i x3 x4 x5) pl0)) (View.ld (lses i x3 x4 x5) pl1) (View.ld (lses i x3 x4 x5) pl2)
    (View.ld (outs i x3 x4 x5 x6 x7) pl0) (View.ld (outs i x3 x4 x5 x6 x7) pl1) (View.ld (outs i x3 x4 x5 x6 x7) pl2)⟩]

end Outs

theorem cover0_10 (p0 : Vec F S1x2048x128 .f32) (y : S1x2048x128.Idx) :
    ∃ pc ∈ ([⟨bx1, p0⟩] : List (View.Piece (Elt F) S1x2048x128 .f32)), y ∈ pc.1.set :=
  View.cover_of_tiled [⟨bx1, p0⟩] S1x2048x128.size (by rfl) y

set_option maxHeartbeats 8000000 in
/-- The body's triple: the inputs' blocks read, both results' blocks at what the trips and the merge leave. -/
theorem sound_kernel (c : Dev nD) (i : grid0.Coords)
    (arg3 : Memref sig .tc .vmem S1x2048x128 .f32) (harg3 : arg3.IsWhole)
    (arg4 : Memref sig .tc .vmem S1x2048x256 .f32) (harg4 : arg4.IsWhole)
    (arg5 : Memref sig .tc .vmem S1x2048x256 .f32) (harg5 : arg5.IsWhole)
    (arg6 : Memref sig .tc .vmem S1x2048x128 .f32) (harg6 : arg6.IsWhole)
    (arg7 : Memref sig .tc .vmem S1x2048x128 .f32) (harg7 : arg7.IsWhole)
    (arg8 : Memref sig .tc .vmem S1x2048x128 .f32) (harg8 : arg8.IsWhole)
    (arg9 : Memref sig .tc .vmem S1x2048x128 .f32) (harg9 : arg9.IsWhole)
    (arg10 : Memref sig .tc .vmem S1x2048x128 .f32) (harg10 : arg10.IsWhole)
    (arg11 : Memref sig .tc .vmem S1x128 .f32) (harg11 : arg11.IsWhole)
    (arg12 : Memref sig .tc .vmem S1x2048x128 .f32) (harg12 : arg12.IsWhole)
    (arg13 : Memref sig .tc .vmem S1x2048x128 .f32) (harg13 : arg13.IsWhole)
    (arg14 : Memref sig .tc .vmem S4096x256 .f32) (harg14 : arg14.IsWhole)
    (arg15 : Memref sig .tc .vmem S4096x128 .f32) (harg15 : arg15.IsWhole)
    (arg16 : Memref sig .tc .vmem S4096x128 .f32) (harg16 : arg16.IsWhole)
    (arg17 : Memref sig .tc .vmem S3x2048x128 .f32) (harg17 : arg17.IsWhole)
    (arg18 : Memref sig .tc .vmem S3x2048x128 .f32) (harg18 : arg18.IsWhole)
    (arg19 : Memref sig .tc .vmem S2x128x256 .f32) (harg19 : arg19.IsWhole)
    (x0 : Vec F S1x2048x128 .f32) (x1 : Vec F S1x2048x256 .f32) (x2 : Vec F S1x2048x256 .f32) (x3 : Vec F S1x2048x128 .f32) (x4 : Vec F S1x2048x128 .f32) (x5 : Vec F S1x2048x128 .f32) (x6 : Vec F S1x2048x128 .f32) (x7 : Vec F S1x2048x128 .f32) (x8 : Vec F S1x128 .f32) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare x5
      ∗ owns (c : Thread nD τ) arg9 fullShare x6
      ∗ owns (c : Thread nD τ) arg10 fullShare x7
      ∗ owns (c : Thread nD τ) arg11 fullShare x8
      ∗ (∃ d, owns (c : Thread nD τ) arg12 fullShare d)
      ∗ (∃ d, owns (c : Thread nD τ) arg13 fullShare d)
      ∗ (∃ f, arg14.view.loc (c : Thread nD τ) ↦[arg14.view.set]{fullShare} f)
      ∗ (∃ f, arg15.view.loc (c : Thread nD τ) ↦[arg15.view.set]{fullShare} f)
      ∗ (∃ f, arg16.view.loc (c : Thread nD τ) ↦[arg16.view.set]{fullShare} f)
      ∗ (∃ f, arg17.view.loc (c : Thread nD τ) ↦[arg17.view.set]{fullShare} f)
      ∗ (∃ f, arg18.view.loc (c : Thread nD τ) ↦[arg18.view.set]{fullShare} f)
      ∗ (∃ f, arg19.view.loc (c : Thread nD τ) ↦[arg19.view.set]{fullShare} f)
      ∗ ((owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare x5
      ∗ owns (c : Thread nD τ) arg9 fullShare x6
      ∗ owns (c : Thread nD τ) arg10 fullShare x7
      ∗ owns (c : Thread nD τ) arg11 fullShare x8
      ∗ owns (c : Thread nD τ) arg12 fullShare (out0_9 i x0 x1 x2 x8)
      ∗ owns (c : Thread nD τ) arg13 fullShare (out0_10 i x3 x4 x5 x6 x7)
      ∗ (∃ f, arg14.view.loc (c : Thread nD τ) ↦[arg14.view.set]{fullShare} f)
      ∗ (∃ f, arg15.view.loc (c : Thread nD τ) ↦[arg15.view.set]{fullShare} f)
      ∗ (∃ f, arg16.view.loc (c : Thread nD τ) ↦[arg16.view.set]{fullShare} f)
      ∗ (∃ f, arg17.view.loc (c : Thread nD τ) ↦[arg17.view.set]{fullShare} f)
      ∗ (∃ f, arg18.view.loc (c : Thread nD τ) ↦[arg18.view.set]{fullShare} f)
      ∗ (∃ f, arg19.view.loc (c : Thread nD τ) ↦[arg19.view.set]{fullShare} f)) -∗ K ⟨⟩))
    ⊢ wp frame (wpE (defs₀ (F := F)) Variants.none c none) Set.univ (cc0_attn_prompt i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_attn_prompt_eq_skeleton]
  unfold cc0_attn_prompt_skel
  simp only [k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, %hf10, H10⟩, ⟨%f11, H11⟩, ⟨%f12, H12⟩, ⟨%f13, H13⟩, ⟨%f14, H14⟩, ⟨%f15, H15⟩, ⟨%f16, H16⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover12 _ _ _ _ _ _ _)).trans ?_
    unfold out0_9
    simp only [View.read_writes_junk_eq_canon]
    rfl
  isplitl [H10]
  · iexists _; isplitr
    swap; · iexact H10
    ipureintro
    refine (View.read_writes_eq_canon _ _ _ (cover0_10 _)).trans ?_
    unfold out0_10 lses outs
    sl_unfold_words
    simp only [View.readAt_writes_of_cover _ _ _ _ (fun j => cover18 _ _ _ _ _), View.readAt_writes_of_cover _ _ _ _ (fun j => cover17 _ _ _ _ _ _), View.readCov_eq_canon', View.read_writes_junk_eq_canon]
    rfl
  isplitl [H11]
  · iexists _; iexact H11
  isplitl [H12]
  · iexists _; iexact H12
  isplitl [H13]
  · iexists _; iexact H13
  isplitl [H14]
  · iexists _; iexact H14
  isplitl [H15]
  · iexists _; iexact H15
  iexists _; iexact H16

end Cert.KernelIdeal.Attn

end
-- ==== Proof.KFrame.lean ====
/-
  The attention kernel's frame: every run ends, the arguments unchanged, the two results at what the body leaves block by block.
-/
module

public import proofs.«01_k».proof.Proof.KBody
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The blocks the pipeline moves: each input's buffer at its block, each result's at what the body leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (grid0.coords t) (iblk m c 0 t) (iblk m c 1 t) (iblk m c 2 t) (iblk m c 8 t)
    | ⟨10, _⟩ => out0_10 (grid0.coords t) (iblk m c 3 t) (iblk m c 4 t) (iblk m c 5 t) (iblk m c 6 t) (iblk m c 7 t)
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (grid0.coords t) (iblk m c 0 t) (iblk m c 1 t) (iblk m c 2 t) (iblk m c 8 t) := by dsimp only [dats]
theorem after0_10 (c : Dev nD) (t : Fin cfg0.N) : (dats m 0 c).after 10 t = out0_10 (grid0.coords t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- A whole buffer held whole, as its whole memref's view holds it. -/
theorem whole_eq (c : Dev nD) (r : Ref sig .tc) (f : Buf (Elt F) ((c : Thread nD τ).loc r)) :
    (((c : Thread nD τ).loc r) ↦{fullShare} f : sProp 𝕄)
      = ((View.whole r).loc (c : Thread nD τ) ↦[(View.whole r).set]{fullShare} f) := by
  rw [View.set_whole]

set_option maxHeartbeats 1600000 in
/-- The body at any point: the scratch buffers are taken out of the invariant, used, and put back at whatever they hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10]
  unfold Pipeline.ΦA
  rw [scopedRest0_eq]
  iintro ⟨⟨⟨⟨%g0, S0⟩, ⟨%g1, S1⟩, ⟨%g2, S2⟩, ⟨%g3, S3⟩, ⟨%g4, S4⟩, ⟨%g5, S5⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [S0]
  · iexists g0; iapply (Entails.of_eq (whole_eq c cc0_scratch0 g0)); iexact S0
  isplitl [S1]
  · iexists g1; iapply (Entails.of_eq (whole_eq c cc0_scratch1 g1)); iexact S1
  isplitl [S2]
  · iexists g2; iapply (Entails.of_eq (whole_eq c cc0_scratch2 g2)); iexact S2
  isplitl [S3]
  · iexists g3; iapply (Entails.of_eq (whole_eq c cc0_scratch3 g3)); iexact S3
  isplitl [S4]
  · iexists g4; iapply (Entails.of_eq (whole_eq c cc0_scratch4 g4)); iexact S4
  isplitl [S5]
  · iexists g5; iapply (Entails.of_eq (whole_eq c cc0_scratch5 g5)); iexact S5
  iintro ⟨H0, H1, H2, H3, H4, H5, H6, H7, H8, H9, H10, ⟨%e0, S0⟩, ⟨%e1, S1⟩, ⟨%e2, S2⟩, ⟨%e3, S3⟩, ⟨%e4, S4⟩, ⟨%e5, S5⟩⟩
  isplitl [S0 S1 S2 S3 S4 S5 Hr]
  · isplitr [Hr]
    · isplitl [S0]; · iexists e0; iapply (Entails.of_eq (whole_eq c cc0_scratch0 e0).symm); iexact S0
      isplitl [S1]; · iexists e1; iapply (Entails.of_eq (whole_eq c cc0_scratch1 e1).symm); iexact S1
      isplitl [S2]; · iexists e2; iapply (Entails.of_eq (whole_eq c cc0_scratch2 e2).symm); iexact S2
      isplitl [S3]; · iexists e3; iapply (Entails.of_eq (whole_eq c cc0_scratch3 e3).symm); iexact S3
      isplitl [S4]; · iexists e4; iapply (Entails.of_eq (whole_eq c cc0_scratch4 e4).symm); iexact S4
      iexists e5; iapply (Entails.of_eq (whole_eq c cc0_scratch5 e5).symm); iexact S5
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 1600000 in
/-- The launch: every run ends with the arrays at what the blocks make them, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.AttnMath.lean ====
module

public import Idealize.ShloMosaic.PureOps.Ideal
public import Mathlib.Data.EReal.Operations
public import Mathlib.Analysis.SpecialFunctions.Log.Basic

/-! Softmax rows over the extended reals: a row of scores, some of them minus infinity, weighting a row of values. -/

@[expose] public section

noncomputable section

namespace Cert.AttnMath

open Idealize.ShloMosaic

variable {n : ℕ} (s v v' : Fin n → EReal)

/-- Every score is a real or minus infinity. -/
def Scores : Prop := (∀ k, s k = ⊥ ∨ ∃ x : ℝ, s k = x) ∧ ∃ k, ∃ x : ℝ, s k = x

/-- The values agree where the score is not minus infinity. -/
def Agree : Prop := ∀ k, s k = ⊥ ∨ v' k = v k

/-- The row's largest score. -/
def top : EReal := (Finset.univ : Finset (Fin n)).fold max ⊥ s

/-- The exponential of a score, as a real. -/
def ex (k : Fin n) : ℝ := (Ideal.exp (s k)).toReal

variable {s v v'}

theorem coe_sum {ι : Type*} (t : Finset ι) (f : ι → ℝ) : (∑ k ∈ t, (f k : EReal)) = ((∑ k ∈ t, f k : ℝ) : EReal) := by
  classical
  induction t using Finset.induction_on with
  | empty => simp
  | insert a t ha ih => rw [Finset.sum_insert ha, Finset.sum_insert ha, ih, EReal.coe_add]

theorem top_real (h : Scores s) : ∃ μ : ℝ, top s = μ := by
  obtain ⟨k, x, hk⟩ := h.2
  obtain ⟨k0, -, h0⟩ := Finset.exists_mem_eq_sup (Finset.univ : Finset (Fin n)) ⟨k, Finset.mem_univ k⟩ s
  have ht : top s = s k0 := h0
  rcases h.1 k0 with hb | ⟨y, hy⟩
  · have hle : s k ≤ (Finset.univ : Finset (Fin n)).sup s := Finset.le_sup (Finset.mem_univ k)
    rw [h0, hb, hk] at hle
    exact absurd (le_bot_iff.mp hle) (EReal.coe_ne_bot x)
  · exact ⟨y, ht.trans hy⟩

theorem exp_score (h : Scores s) (k : Fin n) : Ideal.exp (s k) = (ex s k : EReal) := by
  unfold ex
  rcases h.1 k with hb | ⟨y, hy⟩
  · rw [hb]; simp
  · rw [hy]; simp

theorem ex_nonneg (h : Scores s) (k : Fin n) : 0 ≤ ex s k := by
  unfold ex
  rcases h.1 k with hb | ⟨y, hy⟩
  · rw [hb]; simp
  · rw [hy]; simpa using (Real.exp_pos y).le

theorem exp_shift (h : Scores s) (c : ℝ) (k : Fin n) : Ideal.exp (s k - (c : EReal)) = ((ex s k * Real.exp (-c) : ℝ) : EReal) := by
  unfold ex
  rcases h.1 k with hb | ⟨y, hy⟩
  · rw [hb]; simp
  · rw [hy, ← EReal.coe_sub]
    simp only [Ideal.exp_coe, EReal.toReal_coe, ← Real.exp_add, sub_eq_add_neg]

/-- The row's sum of exponentials. -/
def den (s : Fin n → EReal) : ℝ := ∑ k, ex s k
theorem den_pos (h : Scores s) : 0 < den s := by
  obtain ⟨k, x, hk⟩ := h.2
  refine Finset.sum_pos' (fun i _ => ex_nonneg h i) ⟨k, Finset.mem_univ k, ?_⟩
  unfold ex; rw [hk]; simpa using Real.exp_pos x

theorem sum_exp (h : Scores s) : (∑ k, Ideal.exp (s k)) = (den s : EReal) := by
  simp only [exp_score h]; exact coe_sum _ _

theorem sum_shift (h : Scores s) (c : ℝ) : (∑ k, Ideal.exp (s k - (c : EReal))) = ((den s * Real.exp (-c) : ℝ) : EReal) := by
  simp only [exp_shift h, coe_sum, den, Finset.sum_mul]

/-- A positive real factor passes into a sum of two, whatever they are. -/
theorem add_mul_coe (x y : EReal) {c : ℝ} (hc : 0 < c) : (x + y) * (c : EReal) = x * (c : EReal) + y * (c : EReal) := by
  induction x using EReal.rec <;> induction y using EReal.rec <;>
    simp [EReal.top_mul_coe_of_pos hc, EReal.bot_mul_coe_of_pos hc, ← EReal.coe_add, ← EReal.coe_mul, add_mul]

theorem sum_mul_coe {ι : Type*} (t : Finset ι) (f : ι → EReal) {c : ℝ} (hc : 0 < c) : (∑ k ∈ t, f k) * (c : EReal) = ∑ k ∈ t, f k * (c : EReal) := by
  classical
  induction t using Finset.induction_on with
  | empty => simp
  | insert a t ha ih => rw [Finset.sum_insert ha, Finset.sum_insert ha, add_mul_coe _ _ hc, ih]

/-- The weighted values over a normaliser, one weight at a time. -/
theorem row_div (h : Scores s) (ha : Agree s v v') (μ δ l : ℝ) (hδ : 0 < δ) (e : Real.exp (-μ) * (1 / δ) = Real.exp (-l)) :
    Ideal.div (∑ k, Ideal.exp (s k - (μ : EReal)) * v k) (δ : EReal) = ∑ k, v' k * Ideal.exp (s k - (l : EReal)) := by
  rw [Ideal.div_coe hδ.ne', sum_mul_coe _ _ (by positivity)]
  refine Finset.sum_congr rfl fun k _ => ?_
  rw [exp_shift h, exp_shift h]
  rcases ha k with hb | hv
  · have : ex s k = 0 := by unfold ex; rw [hb]; simp
    rw [this]; simp
  · rw [hv, mul_comm _ (v k), mul_assoc, ← EReal.coe_mul, mul_assoc, e]

theorem log_pos {x : ℝ} (h : 0 < x) : Ideal.log (x : EReal) = (Real.log x : EReal) := by
  rw [Ideal.log_coe, if_neg (not_le.mpr h)]

/-- The row's log-sum-exp, as the reference takes it. -/
theorem lse_ref (h : Scores s) : Ideal.log (0 + ∑ k, Ideal.exp (s k)) = (Real.log (den s) : EReal) := by
  rw [zero_add, sum_exp h, log_pos (den_pos h)]

/-- The row's log-sum-exp, from the shifted sum. -/
theorem lse_shift (h : Scores s) : top s + Ideal.log (∑ k, Ideal.exp (s k - top s)) = (Real.log (den s) : EReal) := by
  obtain ⟨μ, hμ⟩ := top_real h
  rw [hμ, sum_shift h, log_pos (mul_pos (den_pos h) (Real.exp_pos _)), Real.log_mul (den_pos h).ne' (Real.exp_pos _).ne',
    Real.log_exp, ← EReal.coe_add]
  congr 1; ring

/-- A row without a sink. -/
theorem row_plain (h : Scores s) (ha : Agree s v v') :
    Ideal.div (∑ k, Ideal.exp (s k - top s) * v k) (∑ k, Ideal.exp (s k - top s))
      = ∑ k, v' k * Ideal.exp (s k - Ideal.log (0 + ∑ k, Ideal.exp (s k))) := by
  obtain ⟨μ, hμ⟩ := top_real h
  have hd := den_pos h
  have he := Real.exp_pos (-μ)
  rw [hμ, lse_ref h, sum_shift h]
  refine row_div h ha _ _ _ (mul_pos hd he) ?_
  rw [Real.exp_neg (Real.log _), Real.exp_log hd]
  field_simp

/-- A row with a sink. -/
theorem row_sink (h : Scores s) (ha : Agree s v v') (σ : ℝ) :
    Ideal.div (∑ k, Ideal.exp (s k - top s) * v k) ((∑ k, Ideal.exp (s k - top s)) + Ideal.exp ((σ : EReal) - top s))
      = ∑ k, v' k * Ideal.exp (s k - Ideal.log (Ideal.exp (Ideal.log (0 + ∑ k, Ideal.exp (s k))) + Ideal.exp (σ : EReal))) := by
  obtain ⟨μ, hμ⟩ := top_real h
  have hd := den_pos h
  have he := Real.exp_pos (-μ)
  have hs := Real.exp_pos σ
  have hσ : Ideal.exp ((σ : EReal) - (μ : EReal)) = ((Real.exp σ * Real.exp (-μ) : ℝ) : EReal) := by
    rw [← EReal.coe_sub, Ideal.exp_coe, ← Real.exp_add, sub_eq_add_neg]
  rw [hμ, lse_ref h, Ideal.exp_coe, Real.exp_log hd, Ideal.exp_coe, ← EReal.coe_add, log_pos (add_pos hd hs), sum_shift h, hσ, ← EReal.coe_add]
  refine row_div h ha _ _ _ (by positivity) ?_
  rw [Real.exp_neg (Real.log _), Real.exp_log (add_pos hd hs)]
  field_simp

/-- A row with a sink, whatever the sink is. -/
theorem row_sink' (h : Scores s) (ha : Agree s v v') (σ : EReal) :
    Ideal.div (∑ k, Ideal.exp (s k - top s) * v k) ((∑ k, Ideal.exp (s k - top s)) + Ideal.exp (σ - top s))
      = ∑ k, v' k * Ideal.exp (s k - Ideal.log (Ideal.exp (Ideal.log (0 + ∑ k, Ideal.exp (s k))) + Ideal.exp σ)) := by
  obtain ⟨μ, hμ⟩ := top_real h
  have hd := den_pos h
  induction σ using EReal.rec with
  | coe x => exact row_sink h ha x
  | bot =>
    rw [EReal.bot_sub, show Ideal.exp ⊥ = 0 from rfl, add_zero, add_zero, row_plain h ha, lse_ref h, Ideal.exp_coe, Real.exp_log hd, log_pos hd]
  | top =>
    rw [hμ, EReal.top_sub_coe, show Ideal.exp ⊤ = ⊤ from rfl, lse_ref h, Ideal.exp_coe, EReal.coe_add_top, show Ideal.log ⊤ = ⊤ from rfl,
      sum_shift h, EReal.coe_add_top]
    have e : ∀ k, v' k * Ideal.exp (s k - ⊤) = 0 := fun k => by
      rw [EReal.sub_top, show Ideal.exp ⊥ = 0 from rfl, mul_zero]
    simp only [e, Finset.sum_const_zero]
    unfold Ideal.div
    rw [if_neg (by simp), EReal.inv_top, mul_zero]

end Cert.AttnMath

end
-- ==== Proof.AttnTile.lean ====
/-
  One block of the windowed attention, as the kernel computes it, at an element.
-/
module

public import proofs.«01_k».proof.Proof.KTrip
public import proofs.«01_k».proof.Proof.AttnMath
public import Idealize.ShloMosaic.Lib.Pipeline.ValueKit
public import proofs.«01_k».proof.Proof.KBody

@[expose] public section

set_option maxRecDepth 16384

noncomputable section

namespace Cert.KernelIdeal.Attn

open Cert.KernelIdeal Cert.KernelIdeal.Gen Cert.AttnMath
open Idealize.ShloMosaic Idealize.ShloMosaic.TcCoe

/-- The word of a head pair's key head. -/
def headWord (p : Fin 4) : BitVec 32 := BitVec.ofNat 32 (p.val / 2)

theorem pay81_at (p : Fin 4) (e : Fin 128) : k0_pay81 (BitVec.ofNat 32 p.val) (ix2 0 e) = if e.val / 64 = p.val / 2 then 1#1 else 0#1 := by
  pointwise [k0_pay81]
  revert p e; decide +kernel

theorem pay79_at (e : Fin 128) : k0_pay79 (ix2 0 e) = if e.val < 64 then 1#1 else 0#1 := by
  pointwise [k0_pay79]
  revert e; decide +kernel

theorem pay80_at (e : Fin 128) : k0_pay80 (ix2 0 e) = if e.val < 64 then 0#1 else 1#1 := by
  pointwise [k0_pay80]
  revert e; decide +kernel

theorem eighth : Ideal.ofBits FTy.f32 0x3E000000#32 = ((1 / 8 : ℝ) : EReal) := by
  simp [Ideal.ofBits, Ideal.ieee, -EReal.coe_mul]; norm_num

theorem bot_word : Ideal.ofBits FTy.f32 0xFF800000#32 = ⊥ := by simp [Ideal.ofBits, Ideal.ieee]

theorem pay3_at (q : Vec Ideal S1x128x128 .f32) (r e : Fin 128) : k0_pay3 q (ix2 r e) = (q (ix3 0 r e) : EReal) * ((1 / 8 : ℝ) : EReal) := by
  pointwise [k0_pay3]
  rw [eighth]

theorem pay6_at (q : Vec Ideal S1x128x128 .f32) (r e : Fin 128) : k0_pay6 q (ix2 r e) = k0_pay3 q (ix2 r ⟨(e.val + 128 - 64) % 128, by omega⟩) := by
  pointwise [k0_pay6]

/-- A sum over the lanes of one half. -/
theorem sum_half (w : Fin 2) (f : Fin 128 → EReal) (m : Fin 128 → BitVec 1) (hm : ∀ x, m x = if x.val / 64 = w.val then 1#1 else 0#1) :
    (∑ x : Fin 128, Scalar.select (m x) (f x) 0) = ∑ x : Fin 64, f ⟨w.val * 64 + x.val, by omega⟩ := by
  have e : ∀ x : Fin 128, Scalar.select (m x) (f x) 0 = if x.val / 64 = w.val then f x else 0 := fun x => by
    rw [hm]; by_cases h : x.val / 64 = w.val <;> simp [h, Scalar.select]
  rw [Finset.sum_congr rfl fun x _ => e x]
  refine (Fin.sum_univ_add (a := 64) (b := 64) fun x => if x.val / 64 = w.val then f x else 0).trans ?_
  have h1 : ∀ x : Fin 64, x.val / 64 = 0 := fun x => by omega
  have h2 : ∀ x : Fin 64, (64 + x.val) / 64 = 1 := fun x => by omega
  fin_cases w
  · simp only [Fin.val_castAdd, Fin.val_natAdd, h1, h2]
    simp
    exact Finset.sum_congr rfl fun x _ => congrArg f (Fin.ext (by simp; try omega))
  · simp only [Fin.val_castAdd, Fin.val_natAdd, h1, h2]
    simp
    exact Finset.sum_congr rfl fun x _ => congrArg f (Fin.ext (by simp; try omega))

/-- The score of a block's query row at a key: of head `a` of a pair, whose key head is `w`. -/
def score (w a : Fin 2) (b : Vec Ideal S1x128x256 .f32) (q : Vec Ideal S1x128x128 .f32) (kv : Vec Ideal S256x256 .f32) (r : Fin 128) (k : Fin 256) : EReal :=
  (∑ x : Fin 64, ((q (ix3 0 r ⟨a.val * 64 + x.val, by omega⟩) : EReal) * ((1 / 8 : ℝ) : EReal)) * (kv (ix2 k ⟨w.val * 64 + x.val, by omega⟩) : EReal))
    + (b (ix3 0 r k) : EReal)

theorem eq_word (w a : Fin 2) : Scalar.cmpi CmpIPredicate.eq (BitVec.ofNat 32 w.val) (BitVec.ofNat 32 a.val) = if w = a then 1#1 else 0#1 := by
  revert w a; decide +kernel

theorem lanes (w a : Fin 2) (q : Vec Ideal S1x128x128 .f32) (r : Fin 128) (x : Fin 64) :
    Scalar.select (Scalar.cmpi CmpIPredicate.eq (BitVec.ofNat 32 w.val) (BitVec.ofNat 32 a.val))
        (k0_pay3 q (ix2 r ⟨w.val * 64 + x.val, by omega⟩)) (k0_pay6 q (ix2 r ⟨w.val * 64 + x.val, by omega⟩))
      = (q (ix3 0 r ⟨a.val * 64 + x.val, by omega⟩) : EReal) * ((1 / 8 : ℝ) : EReal) := by
  rw [eq_word, pay6_at, pay3_at, pay3_at]
  by_cases h : w = a
  · subst h; simp [Scalar.select]
  · simp only [h, if_false]
    have : (w.val * 64 + x.val + 128 - 64) % 128 = a.val * 64 + x.val := by
      have : w.val ≠ a.val := fun e => h (Fin.ext e)
      omega
    simp only [Scalar.select, this]
    simp

theorem valsum (w a : Fin 2) (P : Fin 256 → EReal) (v : Fin 256 → Fin 128 → EReal) (d : Fin 64) :
    Scalar.select (Scalar.cmpi CmpIPredicate.eq (BitVec.ofNat 32 w.val) (BitVec.ofNat 32 a.val))
        (∑ x, P x * v x ⟨a.val * 64 + d.val, by omega⟩) (∑ x, P x * v x ⟨(a.val * 64 + d.val + 128 - 64) % 128, by omega⟩)
      = ∑ x, P x * v x ⟨w.val * 64 + d.val, by omega⟩ := by
  rw [eq_word]
  by_cases h : w = a
  · subst h; simp [Scalar.select]
  · simp only [h, if_false]
    have : (a.val * 64 + d.val + 128 - 64) % 128 = w.val * 64 + d.val := by
      have : w.val ≠ a.val := fun e => h (Fin.ext e)
      omega
    simp only [Scalar.select, this]
    simp

variable (w : Fin 2) (m : IVec S1x128 1) (hm : ∀ e : Fin 128, m (ix2 0 e) = if e.val / 64 = w.val then 1#1 else 0#1)
  (b : Vec Ideal S1x128x256 .f32) (q : Vec Ideal S1x128x128 .f32) (kv : Vec Ideal S256x256 .f32)

include hm in
theorem pay8_at (r : Fin 128) (k : Fin 256) : k0_pay8 (BitVec.ofNat 32 w.val) m b q kv (ix2 r k) = score w 0 b q kv r k := by
  pointwise [k0_pay8, k0_pay2, k0_pay4]
  unfold score
  congr 1
  refine (sum_half w _ _ hm).trans (Finset.sum_congr rfl fun x _ => ?_)
  exact congrArg (· * _) (lanes w 0 q r x)

include hm in
theorem pay13_at (r : Fin 128) (k : Fin 256) :
    k0_pay13 (BitVec.ofNat 32 w.val) m (k0_pay2 b) (k0_pay3 q) (k0_pay4 kv) (k0_pay6 q) (ix2 r k) = score w 1 b q kv r k := by
  pointwise [k0_pay13, k0_pay2, k0_pay4]
  unfold score
  congr 1
  refine (sum_half w _ _ hm).trans (Finset.sum_congr rfl fun x _ => ?_)
  exact congrArg (· * _) (lanes w 1 q r x)

include hm in
theorem pay9_at (r : Fin 128) : k0_pay9 (BitVec.ofNat 32 w.val) m b q kv (ix2 r 0) = top (score w 0 b q kv r) := by
  pointwise [k0_pay9]
  rw [bot_word]
  exact congrArg (fun s => Finset.fold max ⊥ s Finset.univ) (funext fun k => pay8_at w m hm b q kv r k)

include hm in
theorem pay14_at (r : Fin 128) :
    k0_pay14 (BitVec.ofNat 32 w.val) m (k0_pay2 b) (k0_pay3 q) (k0_pay4 kv) (k0_pay6 q) (ix2 r 0) = top (score w 1 b q kv r) := by
  pointwise [k0_pay14]
  rw [bot_word]
  exact congrArg (fun s => Finset.fold max ⊥ s Finset.univ) (funext fun k => pay13_at w m hm b q kv r k)

include hm in
theorem pay10_at (r : Fin 128) (k : Fin 256) : k0_pay10 (BitVec.ofNat 32 w.val) m b q kv (ix2 r k)
    = Ideal.exp (score w 0 b q kv r k - top (score w 0 b q kv r)) := by
  pointwise [k0_pay10]
  rw [pay8_at w m hm, pay9_at w m hm]

include hm in
theorem pay15_at (r : Fin 128) (k : Fin 256) :
    k0_pay15 (BitVec.ofNat 32 w.val) m (k0_pay2 b) (k0_pay3 q) (k0_pay4 kv) (k0_pay6 q) (ix2 r k)
    = Ideal.exp (score w 1 b q kv r k - top (score w 1 b q kv r)) := by
  pointwise [k0_pay15]
  rw [pay13_at w m hm, pay14_at w m hm]

/-- A row's weighted values over its normaliser, the sink's term added. -/
def row (w a : Fin 2) (b : Vec Ideal S1x128x256 .f32) (q : Vec Ideal S1x128x128 .f32) (kv : Vec Ideal S256x256 .f32) (σ : EReal) (r : Fin 128) (d : Fin 64) : EReal :=
  Ideal.div (∑ k : Fin 256, Ideal.exp (score w a b q kv r k - top (score w a b q kv r)) * (kv (ix2 k ⟨128 + (w.val * 64 + d.val), by omega⟩) : EReal))
    ((∑ k : Fin 256, Ideal.exp (score w a b q kv r k - top (score w a b q kv r))) + Ideal.exp (σ - top (score w a b q kv r)))

include hm in
theorem pay5_at (k : Fin 256) (d : Fin 64) : k0_pay5 m kv (ix2 k ⟨w.val * 64 + d.val, by omega⟩) = (kv (ix2 k ⟨128 + (w.val * 64 + d.val), by omega⟩) : EReal) := by
  pointwise [k0_pay5]
  rw [hm]
  have : (w.val * 64 + d.val) / 64 = w.val := by omega
  simp [Scalar.select, this]

theorem tA_at (p : Fin 4) (hw : w.val = p.val / 2) (sk : Vec Ideal S1x128 .f32) (a : Fin 2) (r : Fin 128) (d : Fin 64) :
    tA (BitVec.ofNat 32 p.val) (BitVec.ofNat 32 w.val) sk b q kv (ix3 0 r ⟨a.val * 64 + d.val, by omega⟩)
      = row w a b q kv (sk (ix2 0 ⟨a.val * 64 + d.val, by omega⟩)) r d := by
  pointwise [tA, k0_pay18, k0_pay12, k0_pay7, k0_pay11, k0_pay82, k0_pay16, k0_pay17]
  have hm : ∀ e : Fin 128, k0_pay81 (BitVec.ofNat 32 p.val) (ix2 0 e) = if e.val / 64 = w.val then 1#1 else 0#1 := fun e => by rw [pay81_at, hw]
  simp only [pay10_at w _ hm, pay15_at w _ hm, pay9_at w _ hm, pay14_at w _ hm, pay79_at, pay80_at]
  fin_cases a
  · have e1 : (0 : Fin 2).val * 64 + d.val < 64 := by simp
    have h := valsum w 0 (fun x : Fin 256 => Ideal.exp (score w 0 b q kv r x - top (score w 0 b q kv r)))
      (fun x l => k0_pay5 (k0_pay81 (BitVec.ofNat 32 p.val)) kv (ix2 x l)) d
    refine (congrArg₂ (· + ·) (congrArg (fun c => Scalar.select c _ _) (if_pos e1)) (congrArg (fun c => Scalar.select c _ _) (if_pos e1))).trans ?_
    refine (add_zero _).trans ?_
    refine congrArg₂ Ideal.div (h.trans ?_) rfl
    exact Finset.sum_congr rfl fun x _ => congrArg (_ * ·) (pay5_at w _ hm kv x d)
  · have e1 : ¬ (1 : Fin 2).val * 64 + d.val < 64 := by simp
    have h := valsum w 1 (fun x : Fin 256 => Ideal.exp (score w 1 b q kv r x - top (score w 1 b q kv r)))
      (fun x l => k0_pay5 (k0_pay81 (BitVec.ofNat 32 p.val)) kv (ix2 x l)) d
    refine (congrArg₂ (· + ·) (congrArg (fun c => Scalar.select c _ _) (if_neg e1)) (congrArg (fun c => Scalar.select c _ _) (if_neg e1))).trans ?_
    refine (zero_add _).trans ?_
    refine congrArg₂ Ideal.div (h.trans ?_) rfl
    exact Finset.sum_congr rfl fun x _ => congrArg (_ * ·) (pay5_at w _ hm kv x d)

end Cert.KernelIdeal.Attn

end
-- ==== Proof.AttnBlk.lean ====
/-
  A block of the first result, read at an element.
-/
module

public import proofs.«01_k».proof.Proof.AttnTile
public import proofs.«01_k».proof.Proof.KFrame

@[expose] public section

set_option maxRecDepth 16384

noncomputable section

namespace Cert.KernelIdeal.Attn

open Cert.KernelIdeal Cert.KernelIdeal.Gen Cert.AttnMath
open Idealize.ShloMosaic Idealize.ShloMosaic.TcCoe Idealize.SL.Sem

theorem mask_bot : (Named.named κ "mask" 0xF149F2CA#32 : Ideal .f32) = (⊥ : EReal) := by
  first | rfl | simp

theorem band_word (r : Fin 128) (k : Fin 256) :
    IntOp.andi (IntOp.cmpi CmpIPredicate.sge (IntOp.subi (IntOp.addi (BitVec.ofNat 32 r.val) 128#32) (BitVec.ofNat 32 k.val)) 0#32)
        (IntOp.cmpi CmpIPredicate.sle (IntOp.subi (IntOp.addi (BitVec.ofNat 32 r.val) 128#32) (BitVec.ofNat 32 k.val)) 128#32)
      = if k.val ≤ r.val + 128 ∧ r.val ≤ k.val then 1#1 else 0#1 := by
  revert r k; decide +kernel

theorem pay71_at (r : Fin 128) (k : Fin 256) : (k0_pay71 (F := Ideal) (ix3 0 r k) : EReal) = if k.val ≤ r.val + 128 ∧ r.val ≤ k.val then 0 else ⊥ := by
  pointwise [k0_pay71]
  rw [band_word, mask_bot]
  by_cases h : k.val ≤ r.val + 128 ∧ r.val ≤ k.val <;> simp [h, Scalar.select]

theorem pay70_at (r : Fin 128) (k : Fin 256) :
    (k0_pay70 (F := Ideal) (ix3 0 r k) : EReal) = if (k.val ≤ r.val + 128 ∧ r.val ≤ k.val) ∧ 128 ≤ k.val then 0 else ⊥ := by
  pointwise [k0_pay70]
  have h2 : ∀ k : Fin 256, IntOp.cmpi CmpIPredicate.sge (BitVec.ofNat 32 k.val) 128#32 = if 128 ≤ k.val then 1#1 else 0#1 := by decide +kernel
  rw [band_word, mask_bot, h2]
  by_cases h : k.val ≤ r.val + 128 ∧ r.val ≤ k.val <;> by_cases h' : 128 ≤ k.val <;> simp [h, h', Scalar.select, IntOp.andi]

theorem bias_at (r : Fin 128) (k : Fin 256) (p : Fin 2) :
    (bias (F := Ideal) (ix3 p r k) : EReal) = if (k.val ≤ r.val + 128 ∧ r.val ≤ k.val) ∧ (0 < p.val ∨ 128 ≤ k.val) then 0 else ⊥ := by
  unfold bias
  canon_tiles x hx
  · idx_vars x
    obtain rfl : x1 = r := (Fin.ext hx1).symm
    obtain rfl : x2 = k := (Fin.ext hx2).symm
    have h0 : x0 = 0 := Fin.ext (by omega)
    subst h0
    have hp : 0 < p.val := by change p.val = 1 + _ at hx0; omega
    rw [pay71_at]
    simp [hp]
  · idx_vars x
    obtain rfl : x1 = r := (Fin.ext hx1).symm
    obtain rfl : x2 = k := (Fin.ext hx2).symm
    have h0 : x0 = 0 := Fin.ext (by omega)
    subst h0
    have hp : p.val = 0 := hx0
    rw [pay70_at]
    simp [hp]

theorem kvA_at (cur prev : Vec Ideal S1x2048x256 .f32) (R : Fin 4096) (l : Fin 256) :
    kvA cur prev (ix2 R l) = if h : R.val < 2048 then prev (ix3 0 ⟨R.val, h⟩ l) else cur (ix3 0 ⟨R.val - 2048, by omega⟩ l) := by
  unfold kvA
  canon_tiles x hx
  · idx_vars x
    change R.val = 2048 + x0.val at hx0
    obtain rfl : x1 = l := (Fin.ext hx1).symm
    pointwise [k0_pay73]
    rw [dif_neg (by omega)]
    exact congrArg (fun z => cur (ix3 0 z x1)) (Fin.ext (by show x0.val = R.val - 2048; omega))
  · idx_vars x
    change R.val = x0.val at hx0
    obtain rfl : x1 = l := (Fin.ext hx1).symm
    pointwise [k0_pay72]
    rw [dif_pos (by omega)]
    exact congrArg (fun z => prev (ix3 0 z x1)) (Fin.ext (by show x0.val = R.val; omega))

theorem off1_eq (i : grid0.Coords) (k : Fin k0_t1_loop.trips) :
    k0_off1 i k = ![if 0 < (i 2).val ∨ 0 < k.val then 1 else 0, 0, 0] := by
  have h2 : (i 2).val < 4 := (i 2).isLt
  unfold k0_off1
  generalize (i 2).val = c at h2
  revert k
  interval_cases c <;> decide +kernel

theorem off3_eq : ∀ k : Fin k0_t1_loop.trips, k0_off3 k 0 = 1920 + 128 * k.val ∧ k0_off3 k 1 = 0 := by decide +kernel

theorem half_eq (p : Fin 4) : half (BitVec.ofNat 32 p.val) = BitVec.ofNat 32 (p.val / 2) := by
  revert p; decide +kernel

/-- The windows' block indices at a grid point: batch, chunk, head pair. -/
theorem idx : ∀ t : Fin cfg0.N, win0_0.index t = ![t.val / 16, t.val % 4, t.val / 4 % 4]
    ∧ win0_1.index t = ![t.val / 16, t.val % 4, 0] ∧ win0_2.index t = ![t.val / 16, t.val % 4 - 1, 0]
    ∧ win0_3.index t = ![t.val / 16, t.val % 4, t.val / 4 % 4]
    ∧ win0_4.index t = ![t.val / 16, t.val % 4, t.val / 4 % 4] ∧ win0_5.index t = ![t.val / 16, t.val % 4 - 1, t.val / 4 % 4]
    ∧ win0_6.index t = ![t.val / 16, t.val % 4, 4 + t.val / 4 % 4] ∧ win0_7.index t = ![t.val / 16, t.val % 4 - 1, 4 + t.val / 4 % 4]
    ∧ win0_8.index t = ![0, t.val / 4 % 4]
    ∧ win0_9.index t = ![t.val / 16, t.val % 4, t.val / 4 % 4] ∧ win0_10.index t = ![t.val / 16, t.val % 4, t.val / 4 % 4] := by
  decide +kernel

theorem coords_eq : ∀ t : Fin cfg0.N, (grid0.coords t 0).val = t.val / 16 ∧ (grid0.coords t 1).val = t.val / 4 % 4 ∧ (grid0.coords t 2).val = t.val % 4 := by
  decide +kernel

variable (m : (ℓ : Loc nD τ sig) → Buf (Elt Ideal) ℓ)

theorem q_at (c : Dev nD) (t : Fin cfg0.N) (r : Fin 2048) (l : Fin 128) :
    (iblk m c 0 t : Vec Ideal S1x2048x128 .f32) (ix3 0 r l) = m ((c : Thread nD τ).loc main_arg0)
      (ix2 ⟨t.val / 16 * 8192 + t.val % 4 * 2048 + r.val, by have := t.isLt; change t.val < 32 at this; omega⟩
        ⟨t.val / 4 % 4 * 128 + l.val, by omega⟩) := by
  blk_point [iblk, V, idx t]

theorem kvc_at (c : Dev nD) (t : Fin cfg0.N) (r : Fin 2048) (l : Fin 256) :
    (iblk m c 1 t : Vec Ideal S1x2048x256 .f32) (ix3 0 r l) = m ((c : Thread nD τ).loc main_arg1)
      (ix2 ⟨t.val / 16 * 8192 + t.val % 4 * 2048 + r.val, by have := t.isLt; change t.val < 32 at this; omega⟩ l) := by
  blk_point [iblk, V, idx t]

theorem kvp_at (c : Dev nD) (t : Fin cfg0.N) (r : Fin 2048) (l : Fin 256) :
    (iblk m c 2 t : Vec Ideal S1x2048x256 .f32) (ix3 0 r l) = m ((c : Thread nD τ).loc main_arg1)
      (ix2 ⟨t.val / 16 * 8192 + (t.val % 4 - 1) * 2048 + r.val, by have := t.isLt; change t.val < 32 at this; omega⟩ l) := by
  blk_point [iblk, V, idx t]

theorem sink_at (c : Dev nD) (t : Fin cfg0.N) (l : Fin 128) :
    (View.ld (iblk m c 8 t) bx3 : Vec Ideal S1x128 .f32) (ix2 0 l) = m ((c : Thread nD τ).loc main_arg4)
      (ix2 0 ⟨(t.val / 4 % 4 * 128 + l.val) / 64, by omega⟩) := by
  pointwise
  blk_point [iblk, V, idx t]

/-- A trip's bias, at a row and key. -/
theorem lb_at (i : grid0.Coords) (k : Fin k0_t1_loop.trips) (r : Fin 128) (e : Fin 256) :
    (rd (bias (F := Ideal)) (lbA i k) (ix3 0 r e) : EReal)
      = if (e.val ≤ r.val + 128 ∧ r.val ≤ e.val) ∧ ((0 < (i 2).val ∨ 0 < k.val) ∨ 128 ≤ e.val) then 0 else ⊥ := by
  have h : (lbA i k).idx (ix3 0 r e) = ix3 ⟨if 0 < (i 2).val ∨ 0 < k.val then 1 else 0, by split <;> omega⟩ r e := by
    funext a
    fin_cases a
    · refine Fin.ext ?_
      show k0_off1 i k 0 + 1 * 0 = _
      rw [off1_eq]; rfl
    · refine Fin.ext ?_
      show k0_off1 i k 1 + 1 * r.val = _
      rw [off1_eq]; show 0 + 1 * r.val = r.val; omega
    · refine Fin.ext ?_
      show k0_off1 i k 2 + 1 * e.val = _
      rw [off1_eq]; show 0 + 1 * e.val = e.val; omega
  show (bias (F := Ideal) ((lbA i k).idx (ix3 0 r e)) : EReal) = _
  rw [h, bias_at]
  by_cases hc : 0 < (i 2).val ∨ 0 < k.val <;> simp [hc]

theorem lq_at (x : Vec Ideal S1x2048x128 .f32) (k : Fin k0_t1_loop.trips) (r l : Fin 128) (R : Fin 2048) (hR : R.val = 128 * k.val + r.val) :
    rd x (lqA k) (ix3 0 r l) = x (ix3 0 R l) := by
  refine congrArg x (funext fun a => ?_)
  obtain ⟨h0, h1, h2⟩ := off2_eq k
  fin_cases a
  · exact Fin.ext (by show k0_off2 k 0 + 1 * 0 = 0; omega)
  · exact Fin.ext (by show k0_off2 k 1 + 1 * r.val = R.val; omega)
  · exact Fin.ext (by show k0_off2 k 2 + 1 * l.val = l.val; omega)

theorem lk_at (x : Vec Ideal S4096x256 .f32) (k : Fin k0_t1_loop.trips) (e l : Fin 256) (R : Fin 4096) (hR : R.val = 1920 + 128 * k.val + e.val) :
    rd x (lkA k) (ix2 e l) = x (ix2 R l) := by
  refine congrArg x (funext fun a => ?_)
  obtain ⟨h0, h1⟩ := off3_eq k
  fin_cases a
  · exact Fin.ext (by show k0_off3 k 0 + 1 * e.val = R.val; omega)
  · exact Fin.ext (by show k0_off3 k 1 + 1 * l.val = l.val; omega)

/-- A block of the first result at a row of a trip and a lane of a head. -/
theorem out9_at (i : grid0.Coords) (x0 : Vec Ideal S1x2048x128 .f32) (x1 x2 : Vec Ideal S1x2048x256 .f32) (x8 : Vec Ideal S1x128 .f32)
    (k : Fin k0_t1_loop.trips) (r : Fin 128) (w a : Fin 2) (d : Fin 64) (R : Fin 2048) (hR : R.val = 128 * k.val + r.val) (hw : w.val = (i 1).val / 2) :
    out0_9 i x0 x1 x2 x8 (ix3 0 R ⟨a.val * 64 + d.val, by omega⟩)
      = row w a (rd bias (lbA i k)) (rd x0 (lqA k)) (rd (kvA x1 x2) (lkA k)) (View.ld x8 bx3 (ix2 0 ⟨a.val * 64 + d.val, by omega⟩)) r d := by
  have ht := trips_eq
  unfold out0_9
  refine View.canon_eq_of_allAt _ _ _ (cover12 _ _ _ _ _ _ _ _) ?_
  intro p hp x hx
  obtain ⟨k', hk', hp⟩ := (mem_before _ _ _).1 hp
  obtain rfl := List.mem_singleton.1 hp
  obtain ⟨h0, h1, h2⟩ := off2_eq k'
  have e1 : k0_off2 k' 1 + 1 * (x 1).val = R.val := congrArg (fun j => (j 1).val) hx
  have e2 : k0_off2 k' 2 + 1 * (x 2).val = a.val * 64 + d.val := congrArg (fun j => (j 2).val) hx
  have b1 : (x 1).val < 128 := (x 1).isLt
  have hk : k' = k := Fin.ext (by omega)
  subst hk
  have hx' : x = ix3 0 r ⟨a.val * 64 + d.val, by omega⟩ := by
    funext b
    fin_cases b
    · exact Fin.ext (by have : (x 0).val < 1 := (x 0).isLt; show (x 0).val = 0; omega)
    · exact Fin.ext (by show (x 1).val = r.val; omega)
    · exact Fin.ext (by show (x 2).val = a.val * 64 + d.val; omega)
  have hp4 : (i 1).val < 4 := (i 1).isLt
  have e := half_eq ⟨(i 1).val, hp4⟩
  show tA _ (half (BitVec.ofNat 32 (i 1).val)) _ _ _ _ x = _
  rw [hx', show half (BitVec.ofNat 32 (i 1).val) = BitVec.ofNat 32 w.val by rw [hw]; exact e]
  exact tA_at w _ _ _ ⟨(i 1).val, hp4⟩ hw _ a r d

end Cert.KernelIdeal.Attn

end
-- ==== Proof.AttnRef.lean ====
module

public import proofs.«01_k».proof.Proof.Gen.AttnRefIdeal.Run
public import Idealize.ShloMosaic.Lib.Pipeline.ValueKit

/-! The windowed attention's reference, one stage at a time: the queries, the keys and the values by blocks with the
block before, the mask, the masked scores, the log-sum-exp with the sink, and the weighted values. -/

@[expose] public section

set_option maxRecDepth 16384

noncomputable section

namespace Cert.AttnRefIdeal.Val

open Cert.AttnRefIdeal Cert.AttnRefIdeal.Gen Idealize.ShloMosaic Idealize.ShloMosaic.TcCoe Idealize.SL.Sem Idealize.ShloMosaic.StableHlo

/-- The queries by blocks. -/
def refQ (qa : FVec Ideal S16384x512 .f32) : FVec Ideal S2x64x128x2x4x64 .f32 :=
  (shapeCast _ (shapeCast _ qa shapeCasts_S16384x512_S2x8192x2x4x64) shapeCasts_S2x8192x2x4x64_S2x64x128x2x4x64)

/-- The keys by blocks, each with the block before it. -/
def refK (kva : FVec Ideal S16384x256 .f32) : FVec Ideal S2x64x256x2x64 .f32 :=
  (concatenate S2x64x256x2x64 2 [⟨S2x64x128x2x64, (concatenate S2x64x128x2x64 1 [⟨S2x1x128x2x64, (broadcastInDim S2x1x128x2x64 ![] bcast_S_S2x1x128x2x64 (constant S_ .f32 0x00000000#32))⟩, ⟨S2x63x128x2x64, (extractStridedSlice S2x63x128x2x64 ![0, 0, 0, 0, 0] (shapeCast _ (shapeCast _ (extractStridedSlice S16384x128 ![0, 0] kva slices_S16384x256_S16384x128_0_0) shapeCasts_S16384x128_S2x8192x2x64) shapeCasts_S2x8192x2x64_S2x64x128x2x64) slices_S2x64x128x2x64_S2x63x128x2x64_0_0_0_0_0)⟩] concatenates_S2x1x128x2x64_S2x63x128x2x64_S2x64x128x2x64_d1)⟩, ⟨S2x64x128x2x64, (shapeCast _ (shapeCast _ (extractStridedSlice S16384x128 ![0, 0] kva slices_S16384x256_S16384x128_0_0) shapeCasts_S16384x128_S2x8192x2x64) shapeCasts_S2x8192x2x64_S2x64x128x2x64)⟩] concatenates_S2x64x128x2x64_S2x64x128x2x64_S2x64x256x2x64_d2)

/-- The values by blocks, each with the block before it. -/
def refV (kva : FVec Ideal S16384x256 .f32) : FVec Ideal S2x64x256x2x64 .f32 :=
  (concatenate S2x64x256x2x64 2 [⟨S2x64x128x2x64, (concatenate S2x64x128x2x64 1 [⟨S2x1x128x2x64, (broadcastInDim S2x1x128x2x64 ![] bcast_S_S2x1x128x2x64 (constant S_ .f32 0x00000000#32))⟩, ⟨S2x63x128x2x64, (extractStridedSlice S2x63x128x2x64 ![0, 0, 0, 0, 0] (shapeCast _ (shapeCast _ (extractStridedSlice S16384x128 ![0, 128] kva slices_S16384x256_S16384x128_0_128) shapeCasts_S16384x128_S2x8192x2x64) shapeCasts_S2x8192x2x64_S2x64x128x2x64) slices_S2x64x128x2x64_S2x63x128x2x64_0_0_0_0_0)⟩] concatenates_S2x1x128x2x64_S2x63x128x2x64_S2x64x128x2x64_d1)⟩, ⟨S2x64x128x2x64, (shapeCast _ (shapeCast _ (extractStridedSlice S16384x128 ![0, 128] kva slices_S16384x256_S16384x128_0_128) shapeCasts_S16384x128_S2x8192x2x64) shapeCasts_S2x8192x2x64_S2x64x128x2x64)⟩] concatenates_S2x64x128x2x64_S2x64x128x2x64_S2x64x256x2x64_d2)

/-- Which keys a query of a block reads. -/
def refM : IVec S64x128x256 1 :=
  (andi (broadcastInDim S64x128x256 ![0, 1, 2] bcast_S1x128x256_S64x128x256_0_1_2 (broadcastInDim S1x128x256 ![1, 2] bcast_S128x256_S1x128x256_1_2 (andi (cmpi .sge (subi (broadcastInDim S128x256 ![0, 1] bcast_S128x1_S128x256_0_1 (broadcastInDim S128x1 ![0] bcast_S128_S128x1_0 (addi (iotaInDim S128 32 0) (broadcastInDim S128 ![] bcast_S_S128 (constantI S_ 32 128#32))))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (broadcastInDim S128x1 ![0] bcast_S128_S128x1_0 (addi (iotaInDim S128 32 0) (broadcastInDim S128 ![] bcast_S_S128 (constantI S_ 32 128#32))))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S64x128x256 ![0, 1, 2] bcast_S64x1x256_S64x128x256_0_1_2 (ori (broadcastInDim S64x1x256 ![0, 1, 2] bcast_S64x1x1_S64x1x256_0_1_2 (cmpi .sgt (broadcastInDim S64x1x1 ![0] bcast_S64_S64x1x1_0 (iotaInDim S64 32 0)) (broadcastInDim S64x1x1 ![] bcast_S_S64x1x1 (constantI S_ 32 0#32)))) (broadcastInDim S64x1x256 ![0, 1, 2] bcast_S1x1x256_S64x1x256_0_1_2 (cmpi .sge (broadcastInDim S1x1x256 ![2] bcast_S256_S1x1x256_2 (iotaInDim S256 32 0)) (broadcastInDim S1x1x256 ![] bcast_S_S1x1x256 (constantI S_ 32 128#32)))))))

/-- The masked scores. -/
def refS (M : IVec S64x128x256 1) (Q : FVec Ideal S2x64x128x2x4x64 .f32) (K : FVec Ideal S2x64x256x2x64 .f32) : FVec Ideal S2x64x2x4x128x256 .f32 :=
  (select (broadcastInDim S2x64x2x4x128x256 ![0, 1, 2, 3, 4, 5] bcast_S1x64x1x1x128x256_S2x64x2x4x128x256_0_1_2_3_4_5 (broadcastInDim S1x64x1x1x128x256 ![1, 4, 5] bcast_S64x128x256_S1x64x1x1x128x256_1_4_5 M)) (mulf (transpose S2x64x2x4x128x256 [0, 1, 2, 5, 4, 3] (Host.dotGeneral dot_S2x64x256x2x64_S2x64x128x2x4x64_S2x64x2x256x128x4_4_5_2_24_013_013 none K Q) transposes_S2x64x2x256x128x4_S2x64x2x4x128x256_0_1_2_5_4_3) (broadcastInDim S2x64x2x4x128x256 ![] bcast_S_S2x64x2x4x128x256 (constant S_ .f32 0x3E000000#32))) (broadcastInDim S2x64x2x4x128x256 ![] bcast_S_S2x64x2x4x128x256 (id (constant S_ .f32 0xFF800000#32))))

/-- The log-sum-exp of a row of scores and its sink. -/
def refL (S : FVec Ideal S2x64x2x4x128x256 .f32) (sk : FVec Ideal S1x8 .f32) : FVec Ideal S2x64x2x4x128 .f32 :=
  (Host.log (addf (Host.exp (Host.log (Host.reduceAdd (Host.exp S) (constant S_ .f32 0x00000000#32) reducesTo_S2x64x2x4x128x256_S2x64x2x4x128_d5 h_S_))) (broadcastInDim S2x64x2x4x128 ![0, 1, 2, 3, 4] bcast_S1x1x2x4x1_S2x64x2x4x128_0_1_2_3_4 (broadcastInDim S1x1x2x4x1 ![2, 3, 4] bcast_S2x4x1_S1x1x2x4x1_2_3_4 (Host.exp (broadcastInDim S2x4x1 ![0, 1] bcast_S2x4_S2x4x1_0_1 (shapeCast _ (shapeCast _ sk shapeCasts_S1x8_S8) shapeCasts_S8_S2x4)))))))

/-- The weighted values. -/
def refO (S : FVec Ideal S2x64x2x4x128x256 .f32) (Vv : FVec Ideal S2x64x256x2x64 .f32) (sk : FVec Ideal S1x8 .f32) : FVec Ideal S2x8192x512 .f32 :=
  shapeCast _ (shapeCast _ (transpose S2x64x128x2x4x64 [0, 1, 5, 2, 4, 3] (Host.dotGeneral dot_S2x64x256x2x64_S2x64x2x4x128x256_S2x64x2x64x4x128_2_5_4_34_013_012 none Vv (Host.exp (subf S (broadcastInDim S2x64x2x4x128x256 ![0, 1, 2, 3, 4, 5] bcast_S2x64x2x4x128x1_S2x64x2x4x128x256_0_1_2_3_4_5 (broadcastInDim S2x64x2x4x128x1 ![0, 1, 2, 3, 4] bcast_S2x64x2x4x128_S2x64x2x4x128x1_0_1_2_3_4 (refL S sk)))))) transposes_S2x64x2x64x4x128_S2x64x128x2x4x64_0_1_5_2_4_3) shapeCasts_S2x64x128x2x4x64_S2x8192x2x4x64) shapeCasts_S2x8192x2x4x64_S2x8192x512

variable (m : (ℓ : Loc nD τ sig) → Buf (Elt Ideal) ℓ) (c : Dev nD)

theorem out0_eq : Cert.AttnRefIdeal.Value.res_out0 m c
    = refO (refS refM (refQ (m ((c.tc : Thread nD τ).loc main_arg0))) (refK (m ((c.tc : Thread nD τ).loc main_arg1)))) (refV (m ((c.tc : Thread nD τ).loc main_arg1))) (m ((c.tc : Thread nD τ).loc main_arg4)) := rfl

theorem refQ_at (qa : FVec Ideal S16384x512 .f32) (b : Fin 2) (n : Fin 64) (r : Fin 128) (h : Fin 2) (g : Fin 4) (d : Fin 64) :
    refQ qa (ix6 b n r h g d) = qa (ix2 ⟨b.val * 8192 + n.val * 128 + r.val, by omega⟩ ⟨h.val * 256 + g.val * 64 + d.val, by omega⟩) := by
  pointwise [refQ]

/-- The query of a row reads a key: within the band, and not before the first block. -/
def Band (n : Fin 64) (r : Fin 128) (k : Fin 256) : Prop := k.val ≤ r.val + 128 ∧ r.val ≤ k.val ∧ (0 < n.val ∨ 128 ≤ k.val)

instance (n : Fin 64) (r : Fin 128) (k : Fin 256) : Decidable (Band n r k) := by unfold Band; infer_instance

theorem band_word (r : Fin 128) (k : Fin 256) :
    IntOp.andi (IntOp.cmpi CmpIPredicate.sge (IntOp.subi (IntOp.addi (BitVec.ofNat 32 r.val) 128#32) (BitVec.ofNat 32 k.val)) 0#32)
        (IntOp.cmpi CmpIPredicate.sle (IntOp.subi (IntOp.addi (BitVec.ofNat 32 r.val) 128#32) (BitVec.ofNat 32 k.val)) 128#32)
      = if k.val ≤ r.val + 128 ∧ r.val ≤ k.val then 1#1 else 0#1 := by
  revert r k; decide +kernel

theorem refM_at (n : Fin 64) (r : Fin 128) (k : Fin 256) : refM (ix3 n r k) = if Band n r k then 1#1 else 0#1 := by
  pointwise [refM]
  rw [band_word]
  have h1 : ∀ n : Fin 64, IntOp.cmpi CmpIPredicate.sgt (BitVec.ofNat 32 n.val) 0#32 = if 0 < n.val then 1#1 else 0#1 := by decide +kernel
  have h2 : ∀ k : Fin 256, IntOp.cmpi CmpIPredicate.sge (BitVec.ofNat 32 k.val) 128#32 = if 128 ≤ k.val then 1#1 else 0#1 := by decide +kernel
  rw [h1, h2]
  unfold Band
  by_cases a : k.val ≤ r.val + 128 ∧ r.val ≤ k.val <;> by_cases b : 0 < n.val <;> by_cases c : 128 ≤ k.val <;> simp [a, b, c, IntOp.andi, IntOp.ori]

/-- The scale, an eighth. -/
theorem scale_eq : Ideal.ofBits FTy.f32 0x3E000000#32 = ((1 / 8 : ℝ) : EReal) := by
  simp [Ideal.ofBits, Ideal.ieee, -EReal.coe_mul]; norm_num

theorem mask_eq : (id (constant (F := Ideal) S_ FTy.f32 0xFF800000#32) ix0 : EReal) = ⊥ := by
  show Ideal.ofBits FTy.f32 0xFF800000#32 = ⊥
  simp [Ideal.ofBits, Ideal.ieee]

theorem refS_at (Q : FVec Ideal S2x64x128x2x4x64 .f32) (K : FVec Ideal S2x64x256x2x64 .f32)
    (b : Fin 2) (n : Fin 64) (h : Fin 2) (g : Fin 4) (r : Fin 128) (k : Fin 256) :
    refS refM Q K (ix6 b n h g r k)
      = if Band n r k then (∑ x : Fin 64, (K (ix5 b n k h x) : EReal) * (Q (ix6 b n r h g x) : EReal)) * ((1 / 8 : ℝ) : EReal) else ⊥ := by
  pointwise [refS]
  rw [refM_at, scale_eq, mask_eq]
  by_cases hb : Band n r k <;> simp [hb, Scalar.select]

theorem refK_at (kva : FVec Ideal S16384x256 .f32) (b : Fin 2) (n : Fin 64) (k : Fin 256) (h : Fin 2) (d : Fin 64) :
    refK kva (ix5 b n k h d)
      = if hk : k.val < 128 then if hn : n.val < 1 then 0 else kva (ix2 ⟨b.val * 8192 + (n.val - 1) * 128 + k.val, by omega⟩ ⟨h.val * 64 + d.val, by omega⟩)
        else kva (ix2 ⟨b.val * 8192 + n.val * 128 + (k.val - 128), by omega⟩ ⟨h.val * 64 + d.val, by omega⟩) := by
  pointwise [refK]

theorem refV_at (kva : FVec Ideal S16384x256 .f32) (b : Fin 2) (n : Fin 64) (k : Fin 256) (h : Fin 2) (d : Fin 64) :
    refV kva (ix5 b n k h d)
      = if hk : k.val < 128 then if hn : n.val < 1 then 0 else kva (ix2 ⟨b.val * 8192 + (n.val - 1) * 128 + k.val, by omega⟩ ⟨128 + (h.val * 64 + d.val), by omega⟩)
        else kva (ix2 ⟨b.val * 8192 + n.val * 128 + (k.val - 128), by omega⟩ ⟨128 + (h.val * 64 + d.val), by omega⟩) := by
  pointwise [refV]

theorem refL_at (S : FVec Ideal S2x64x2x4x128x256 .f32) (sk : FVec Ideal S1x8 .f32)
    (b : Fin 2) (n : Fin 64) (h : Fin 2) (g : Fin 4) (r : Fin 128) :
    refL S sk (ix5 b n h g r) = Ideal.log (Ideal.exp (Ideal.log (∑ k : Fin 256, Ideal.exp (S (ix6 b n h g r k))))
      + Ideal.exp (sk (ix2 0 ⟨h.val * 4 + g.val, by omega⟩))) := by
  have hred : S2x64x2x4x128x256.Reduces [5] S2x64x2x4x128 := by decide
  pointwise [refL]
  rw [Ideal.hostReduceAdd_single _ hred]
  have e : ∀ k : Fin 256, hred.lift (ix5 b n h g r) k = ix6 b n h g r k := fun k => by
    funext a; fin_cases a <;> rfl
  have e2 : (∑ k : Fin (S2x64x2x4x128x256.size 5), Host.exp S (hred.lift (ix5 b n h g r) k)) = ∑ k : Fin 256, Ideal.exp (S (ix6 b n h g r k)) :=
    Finset.sum_congr rfl fun k _ => congrArg (fun j => Ideal.exp (S j)) (e k)
  rw [e2, zero_add]

theorem refO_at (S : FVec Ideal S2x64x2x4x128x256 .f32) (Vv : FVec Ideal S2x64x256x2x64 .f32) (sk : FVec Ideal S1x8 .f32)
    (b : Fin 2) (t : Fin 8192) (l : Fin 512) : refO S Vv sk (ix3 b t l)
      = ∑ k : Fin 256, (Vv (ix5 b ⟨t.val / 128, by omega⟩ k ⟨l.val / 256, by omega⟩ ⟨l.val % 64, by omega⟩) : EReal)
          * Ideal.exp (S (ix6 b ⟨t.val / 128, by omega⟩ ⟨l.val / 256, by omega⟩ ⟨l.val / 64 % 4, by omega⟩ ⟨t.val % 128, by omega⟩ k)
            - refL S sk (ix5 b ⟨t.val / 128, by omega⟩ ⟨l.val / 256, by omega⟩ ⟨l.val / 64 % 4, by omega⟩ ⟨t.val % 128, by omega⟩)) := by
  pointwise [refO]

end Cert.AttnRefIdeal.Val

end
-- ==== Proof.AttnRow.lean ====
/-
  One row of the windowed attention: the kernel's block against the reference's.
-/
module

public import proofs.«01_k».proof.Proof.AttnTile
public import proofs.«01_k».proof.Proof.AttnRef

@[expose] public section

set_option maxRecDepth 16384

noncomputable section

namespace Cert.Attn

open Cert.AttnMath Cert.AttnRefIdeal.Val Cert.KernelIdeal.Attn
open Idealize.ShloMosaic Idealize.ShloMosaic.TcCoe

/-- Every element is a real. -/
def Real' {s : Shape} (x : FVec Ideal s .f32) : Prop := ∀ j, ∃ y : ℝ, (x j : EReal) = y

/-- Every key is a real. -/
def Keys' (x : FVec Ideal Cert.AttnRefIdeal.S16384x256 .f32) : Prop := ∀ (j : Fin 16384) (l : Fin 256), l.val < 128 → ∃ y : ℝ, (x (ix2 j l) : EReal) = y

/-- The scaled product of two rows of reals, scaled before or after. -/
theorem scale_sum {n : ℕ} (f g : Fin n → EReal) (hf : ∀ x, ∃ y : ℝ, f x = y) (hg : ∀ x, ∃ y : ℝ, g x = y) (c : ℝ) :
    (∑ x, (f x * (c : EReal)) * g x) + 0 = (∑ x, g x * f x) * (c : EReal) := by
  choose f' hf using hf
  choose g' hg using hg
  have e1 : ∀ x, (f x * (c : EReal)) * g x = ((f' x * c * g' x : ℝ) : EReal) := fun x => by rw [hf, hg, EReal.coe_mul, EReal.coe_mul]
  have e2 : ∀ x, g x * f x = ((g' x * f' x : ℝ) : EReal) := fun x => by rw [hf, hg, EReal.coe_mul]
  rw [Finset.sum_congr rfl fun x _ => e1 x, Finset.sum_congr rfl fun x _ => e2 x, coe_sum, coe_sum, add_zero, ← EReal.coe_mul, Finset.sum_mul]
  congr 1
  exact Finset.sum_congr rfl fun x _ => by ring

theorem sum_real {n : ℕ} (f : Fin n → EReal) (hf : ∀ x, ∃ y : ℝ, f x = y) : ∃ y : ℝ, (∑ x, f x) = y := by
  choose f' hf using hf
  exact ⟨∑ x, f' x, by rw [Finset.sum_congr rfl fun x _ => hf x, coe_sum]⟩

variable (qa : FVec Ideal Cert.AttnRefIdeal.S16384x512 .f32) (kva : FVec Ideal Cert.AttnRefIdeal.S16384x256 .f32)
  (sk : FVec Ideal Cert.AttnRefIdeal.S1x8 .f32)
  (hqa : Real' qa) (hkva : Keys' kva)

theorem refK_band (b : Fin 2) (n : Fin 64) (r : Fin 128) (k : Fin 256) (h : Fin 2) (d : Fin 64) (hb : Band n r k)
    (j : Fin 16384) (hj : j.val + 128 = b.val * 8192 + n.val * 128 + k.val) :
    refK kva (ix5 b n k h d) = kva (ix2 j ⟨h.val * 64 + d.val, by omega⟩) := by
  obtain ⟨_, _, h3⟩ := hb
  rw [refK_at]
  split
  · rename_i hk
    rw [dif_neg (by omega)]
    exact congrArg (fun j => kva (ix2 j _)) (Fin.ext (by show b.val * 8192 + (n.val - 1) * 128 + k.val = j.val; omega))
  · exact congrArg (fun j => kva (ix2 j _)) (Fin.ext (by show b.val * 8192 + n.val * 128 + (k.val - 128) = j.val; omega))

theorem refV_band (b : Fin 2) (n : Fin 64) (r : Fin 128) (k : Fin 256) (h : Fin 2) (d : Fin 64) (hb : Band n r k)
    (j : Fin 16384) (hj : j.val + 128 = b.val * 8192 + n.val * 128 + k.val) :
    refV kva (ix5 b n k h d) = kva (ix2 j ⟨128 + (h.val * 64 + d.val), by omega⟩) := by
  obtain ⟨_, _, h3⟩ := hb
  rw [refV_at]
  split
  · rename_i hk
    rw [dif_neg (by omega)]
    exact congrArg (fun j => kva (ix2 j _)) (Fin.ext (by show b.val * 8192 + (n.val - 1) * 128 + k.val = j.val; omega))
  · exact congrArg (fun j => kva (ix2 j _)) (Fin.ext (by show b.val * 8192 + n.val * 128 + (k.val - 128) = j.val; omega))

include hqa hkva in
theorem row_eq (b : Fin 2) (n : Fin 64) (r : Fin 128) (h : Fin 2) (g : Fin 4) (d : Fin 64) (a : Fin 2)
    (B : Vec Ideal Cert.KernelIdeal.S1x128x256 .f32) (Q : Vec Ideal Cert.KernelIdeal.S1x128x128 .f32) (KV : Vec Ideal Cert.KernelIdeal.S256x256 .f32)
    (σ : EReal)
    (hB : ∀ k : Fin 256, (B (ix3 0 r k) : EReal) = if Band n r k then 0 else ⊥)
    (hQ : ∀ x : Fin 64, Q (ix3 0 r ⟨a.val * 64 + x.val, by omega⟩)
      = qa (ix2 ⟨b.val * 8192 + n.val * 128 + r.val, by omega⟩ ⟨h.val * 256 + g.val * 64 + x.val, by omega⟩))
    (hK : ∀ (k l : Fin 256) (j : Fin 16384), j.val + 128 = b.val * 8192 + n.val * 128 + k.val → (0 < n.val ∨ 128 ≤ k.val) → KV (ix2 k l) = kva (ix2 j l))
    (hσ : σ = sk (ix2 0 ⟨h.val * 4 + g.val, by omega⟩)) :
    row h a B Q KV σ r d
      = ∑ k : Fin 256, (refV kva (ix5 b n k h d) : EReal) * Ideal.exp (refS refM (refQ qa) (refK kva) (ix6 b n h g r k)
          - refL (refS refM (refQ qa) (refK kva)) sk (ix5 b n h g r)) := by
  have hband : ∀ k, Band n r k → ∃ j : Fin 16384, j.val + 128 = b.val * 8192 + n.val * 128 + k.val := fun k hk => by
    obtain ⟨_, _, h3⟩ := hk
    exact ⟨⟨b.val * 8192 + n.val * 128 + k.val - 128, by omega⟩, by show b.val * 8192 + n.val * 128 + k.val - 128 + 128 = _; omega⟩
  have hs : ∀ k, refS refM (refQ qa) (refK kva) (ix6 b n h g r k) = score h a B Q KV r k := fun k => by
    rw [refS_at]
    unfold score
    rw [hB]
    by_cases hk : Band n r k
    · obtain ⟨j, hj⟩ := hband k hk
      rw [if_pos hk, if_pos hk]
      have e1 : ∀ x : Fin 64, refK kva (ix5 b n k h x) = KV (ix2 k ⟨h.val * 64 + x.val, by omega⟩) := fun x =>
        (refK_band kva b n r k h x hk j hj).trans (hK k _ j hj hk.2.2).symm
      have e2 : ∀ x : Fin 64, refQ qa (ix6 b n r h g x) = Q (ix3 0 r ⟨a.val * 64 + x.val, by omega⟩) := fun x =>
        (refQ_at qa b n r h g x).trans (hQ x).symm
      simp only [e1, e2]
      refine (scale_sum _ _ (fun x => ?_) (fun x => ?_) _).symm
      · rw [hQ]; exact hqa _
      · rw [hK k _ j hj hk.2.2]; exact hkva _ _ (by show h.val * 64 + x.val < 128; omega)
    · rw [if_neg hk, if_neg hk, EReal.add_bot]
  have hbot : ∀ k, ¬ Band n r k → score h a B Q KV r k = ⊥ := fun k hk => by rw [← hs, refS_at, if_neg hk]
  have hreal : ∀ k, Band n r k → ∃ x : ℝ, score h a B Q KV r k = x := fun k hk => by
    obtain ⟨j, hj⟩ := hband k hk
    unfold score
    rw [hB, if_pos hk, add_zero]
    refine sum_real _ fun x => ?_
    rw [hQ, hK k _ j hj hk.2.2]
    obtain ⟨y, hy⟩ := hqa (ix2 ⟨b.val * 8192 + n.val * 128 + r.val, by omega⟩ ⟨h.val * 256 + g.val * 64 + x.val, by omega⟩)
    obtain ⟨z, hz⟩ := hkva j ⟨h.val * 64 + x.val, by omega⟩ (by show h.val * 64 + x.val < 128; omega)
    exact ⟨y * (1 / 8) * z, by rw [hy, hz, EReal.coe_mul, EReal.coe_mul]⟩
  have hself : Band n r ⟨r.val + 128, by omega⟩ := ⟨by show r.val + 128 ≤ r.val + 128; omega, by show r.val ≤ r.val + 128; omega, .inr (by show 128 ≤ r.val + 128; omega)⟩
  have hS : Scores (score h a B Q KV r) :=
    ⟨fun k => by by_cases hk : Band n r k; exacts [.inr (hreal k hk), .inl (hbot k hk)], _, hreal _ hself⟩
  have hA : Agree (score h a B Q KV r) (fun k => KV (ix2 k ⟨128 + (h.val * 64 + d.val), by omega⟩)) (fun k => refV kva (ix5 b n k h d)) := fun k => by
    by_cases hk : Band n r k
    · obtain ⟨j, hj⟩ := hband k hk
      have e := hK k ⟨128 + (h.val * 64 + d.val), by omega⟩ j hj hk.2.2
      exact .inr ((refV_band kva b n r k h d hk j hj).trans e.symm)
    · exact .inl (hbot k hk)
  rw [refL_at]
  simp only [hs]
  unfold row
  rw [hσ]
  refine (row_sink' hS hA _).trans ?_
  rw [zero_add]

end Cert.Attn

end
-- ==== Proof.AttnValue.lean ====
/-
  The windowed attention's result array after the run: the reference's.
-/
module

public import proofs.«01_k».proof.Proof.AttnBlk
public import proofs.«01_k».proof.Proof.AttnRow

@[expose] public section

set_option maxRecDepth 16384

noncomputable section

namespace Cert.KernelIdeal.Attn

open Cert.KernelIdeal Cert.KernelIdeal.Gen Cert.AttnMath Cert.Attn Cert.AttnRefIdeal.Val
open Idealize.ShloMosaic Idealize.ShloMosaic.TcCoe Idealize.SL.Sem
open Idealize.ShloMosaic.Pipeline (Dat)

theorem refO_row (S : FVec Ideal Cert.AttnRefIdeal.S2x64x2x4x128x256 .f32) (Vv : FVec Ideal Cert.AttnRefIdeal.S2x64x256x2x64 .f32) (sk : FVec Ideal Cert.AttnRefIdeal.S1x8 .f32)
    (b : Fin 2) (n : Fin 64) (r : Fin 128) (h : Fin 2) (g : Fin 4) (d : Fin 64) (t : Fin 8192) (l : Fin 512)
    (ht : t.val = n.val * 128 + r.val) (hl : l.val = h.val * 256 + g.val * 64 + d.val) :
    refO S Vv sk (ix3 b t l)
      = ∑ k : Fin 256, (Vv (ix5 b n k h d) : EReal) * Ideal.exp (S (ix6 b n h g r k) - refL S sk (ix5 b n h g r)) := by
  have en : (⟨t.val / 128, by omega⟩ : Fin 64) = n := Fin.ext (by show t.val / 128 = n.val; omega)
  have er : (⟨t.val % 128, by omega⟩ : Fin 128) = r := Fin.ext (by show t.val % 128 = r.val; omega)
  have eh : (⟨l.val / 256, by omega⟩ : Fin 2) = h := Fin.ext (by show l.val / 256 = h.val; omega)
  have eg : (⟨l.val / 64 % 4, by omega⟩ : Fin 4) = g := Fin.ext (by show l.val / 64 % 4 = g.val; omega)
  have ed : (⟨l.val % 64, by omega⟩ : Fin 64) = d := Fin.ext (by show l.val % 64 = d.val; omega)
  refine (refO_at S Vv sk b t l).trans ?_
  rw [en, er, eh, eg, ed]

variable (m : (ℓ : Loc nD τ sig) → Buf (Elt Ideal) ℓ)

/-- The reference's first result, of the arguments. -/
abbrev RO (c : Dev nD) : FVec Ideal Cert.AttnRefIdeal.S2x8192x512 .f32 :=
  refO (refS refM (refQ (m ((c : Thread nD τ).loc main_arg0))) (refK (m ((c : Thread nD τ).loc main_arg1))))
    (refV (m ((c : Thread nD τ).loc main_arg1))) (m ((c : Thread nD τ).loc main_arg4))

variable (hqa : ∀ c : Dev nD, Real' (s := Cert.AttnRefIdeal.S16384x512) (m ((c : Thread nD τ).loc main_arg0)))
  (hkva : ∀ c : Dev nD, Keys' (m ((c : Thread nD τ).loc main_arg1)))

include hqa hkva in
theorem o_row (c : Dev nD) (t : Fin cfg0.N) (k : Fin k0_t1_loop.trips) (r : Fin 128) (w a e : Fin 2) (d : Fin 64)
    (hp : t.val / 4 % 4 = 2 * w.val + e.val) (R : Fin 2048) (hR : R.val = 128 * k.val + r.val)
    (b : Fin 2) (hb : b.val = t.val / 16) (T : Fin 8192) (hT : T.val = t.val % 4 * 2048 + R.val)
    (l : Fin 512) (hl : l.val = t.val / 4 % 4 * 128 + (a.val * 64 + d.val)) :
    out0_9 (grid0.coords t) (iblk m c 0 t) (iblk m c 1 t) (iblk m c 2 t) (iblk m c 8 t) (ix3 0 R ⟨a.val * 64 + d.val, by omega⟩)
      = RO m c (ix3 b T l) := by
  obtain ⟨c0, c1, c2⟩ := coords_eq t
  have hk16 : k.val < 16 := by have := k.isLt; have := trips_eq; omega
  have hg : (2 * e.val + a.val) < 4 := by omega
  rw [out9_at (grid0.coords t) _ _ _ _ k r w a d R hR (by rw [c1]; omega)]
  refine Eq.trans ?_ (refO_row _ _ _ b ⟨t.val % 4 * 16 + k.val, by omega⟩ r w ⟨2 * e.val + a.val, hg⟩ d T l
    (by show T.val = (t.val % 4 * 16 + k.val) * 128 + r.val; omega)
    (by show l.val = w.val * 256 + (2 * e.val + a.val) * 64 + d.val; omega)).symm
  refine row_eq _ _ _ (hqa c) (hkva c) b ⟨t.val % 4 * 16 + k.val, by omega⟩ r w ⟨2 * e.val + a.val, hg⟩ d a _ _ _ _ ?_ ?_ ?_ ?_
  · intro x
    rw [lb_at, c2]
    unfold Band
    refine if_congr ?_ rfl rfl
    have : 0 < t.val % 4 * 16 + k.val ↔ (0 < t.val % 4 ∨ 0 < k.val) := by omega
    show _ ↔ x.val ≤ r.val + 128 ∧ r.val ≤ x.val ∧ (0 < t.val % 4 * 16 + k.val ∨ 128 ≤ x.val)
    rw [this, and_assoc]
  · intro x
    rw [lq_at _ k r _ R hR, q_at]
    exact congrArg₂ (fun u v => m ((c : Thread nD τ).loc main_arg0) (ix2 u v))
      (Fin.ext (by show t.val / 16 * 8192 + t.val % 4 * 2048 + R.val = b.val * 8192 + (t.val % 4 * 16 + k.val) * 128 + r.val; omega))
      (Fin.ext (by show t.val / 4 % 4 * 128 + (a.val * 64 + x.val) = w.val * 256 + (2 * e.val + a.val) * 64 + x.val; omega))
  · intro x l' j hj hx
    change j.val + 128 = b.val * 8192 + (t.val % 4 * 16 + k.val) * 128 + x.val at hj
    change 0 < t.val % 4 * 16 + k.val ∨ 128 ≤ x.val at hx
    rw [lk_at _ k x l' ⟨1920 + 128 * k.val + x.val, by omega⟩ rfl, kvA_at]
    split
    · rename_i h
      change 1920 + 128 * k.val + x.val < 2048 at h
      rw [kvp_at]
      exact congrArg (fun z => m ((c : Thread nD τ).loc main_arg1) (ix2 z l')) (Fin.ext (by
        show t.val / 16 * 8192 + (t.val % 4 - 1) * 2048 + (1920 + 128 * k.val + x.val) = j.val; omega))
    · rename_i h
      change ¬ 1920 + 128 * k.val + x.val < 2048 at h
      rw [kvc_at]
      exact congrArg (fun z => m ((c : Thread nD τ).loc main_arg1) (ix2 z l')) (Fin.ext (by
        show t.val / 16 * 8192 + t.val % 4 * 2048 + (1920 + 128 * k.val + x.val - 2048) = j.val; omega))
  · rw [sink_at]
    exact congrArg (fun z => m ((c : Thread nD τ).loc main_arg4) (ix2 0 z)) (Fin.ext (by
      show (t.val / 4 % 4 * 128 + (a.val * 64 + d.val)) / 64 = w.val * 4 + (2 * e.val + a.val); omega))

include hqa hkva in
theorem o_at (c : Dev nD) (t : Fin cfg0.N) (y : S1x2048x128.Idx) (j : S2x8192x512.Idx)
    (hj0 : (j 0 : ℕ) = t.val / 16) (hj1 : (j 1 : ℕ) = t.val % 4 * 2048 + y 1) (hj2 : (j 2 : ℕ) = t.val / 4 % 4 * 128 + y 2) :
    out0_9 (grid0.coords t) (iblk m c 0 t) (iblk m c 1 t) (iblk m c 2 t) (iblk m c 8 t) y = RO m c j := by
  have ht := trips_eq
  idx_vars y
  idx_vars j
  have h1 : y1.val < 2048 := y1.isLt
  have h2 : y2.val < 128 := y2.isLt
  obtain rfl : y0 = 0 := Fin.ext (by omega)
  have e2 : y2 = ⟨y2.val / 64 * 64 + y2.val % 64, by omega⟩ := Fin.ext (by show y2.val = y2.val / 64 * 64 + y2.val % 64; omega)
  rw [e2]
  refine o_row m hqa hkva c t ⟨y1.val / 128, by omega⟩ ⟨y1.val % 128, by omega⟩ ⟨t.val / 4 % 4 / 2, by omega⟩ ⟨y2.val / 64, by omega⟩
    ⟨t.val / 4 % 4 % 2, by omega⟩ ⟨y2.val % 64, by omega⟩ ?_ y1 ?_ j0 hj0 j1 hj1 j2 ?_
  · show t.val / 4 % 4 = 2 * (t.val / 4 % 4 / 2) + t.val / 4 % 4 % 2; omega
  · show y1.val = 128 * (y1.val / 128) + y1.val % 128; omega
  · show j2.val = t.val / 4 % 4 * 128 + (y2.val / 64 * 64 + y2.val % 64); omega

include hqa hkva in
theorem final9 (c : Dev nD) : (dats m 0 c).arrAt 9 (cfgs 0).N = RO m c := by
  refine (dats m 0 c).arrAt_eq_of_covers 9 _ (by decide +kernel) fun t _ y => ?_
  blk_simp
  rw [after0_9]
  exact o_at m hqa hkva c t y _ (by blk_simp [idx t]; try omega) (by blk_simp [idx t]) (by blk_simp [idx t])

end Cert.KernelIdeal.Attn

end
-- ==== Proof.AttnClaim.lean ====
module

public import proofs.«01_k».proof.Defs
public import proofs.«01_k».proof.Proof.AttnValue
public import proofs.«01_k».proof.Proof.Gen.AttnRefIdeal.Run
public import proofs.«01_k».proof.Proof.Gen.Pre_finite
public import Idealize.ShloMosaic.Lib.Claim
public import Idealize.ShloMosaic.Lib.ReduceAll

/-! The attention kernel against its reference: the claim. -/

@[expose] public section

set_option maxRecDepth 16384

noncomputable section

namespace Cert.Proof

open Idealize.ShloMosaic Idealize.SL.Sem Cert.Attn

/-- A number whose size is below infinity is a real. -/
theorem real_of_abs {x : EReal} (h : max x (-x) < ⊤) : ∃ y : ℝ, x = y := by
  induction x using EReal.rec with
  | coe y => exact ⟨y, rfl⟩
  | bot => simp at h
  | top => simp at h

/-- A comparison of two ideal numbers that is 1. -/
theorem lt_of_cmp {s : Shape} (x y : FVec Ideal s .f32) (i : s.Idx) (h : cmpf .olt x y i = 1#1) : (x i : EReal) < y i := by
  by_contra hn
  have e : cmpf .olt x y i = 0#1 := by
    show BitVec.ofBool _ = 0#1
    exact congrArg BitVec.ofBool (decide_eq_false hn)
  rw [e] at h
  exact absurd h (by decide)

section
open Cert.Pre_finite Cert.Pre_finite.Facts
variable [Cert.Pre_finite.Facts]

instance : Subsingleton (Cert.Pre_finite.S_.Idx) := ⟨fun a b => funext fun i => i.elim0⟩

/-- An array whose every size the predicate finds below infinity holds reals. -/
theorem real_of_all {s : Shape} (x : FVec Ideal s .f32) (hb : S_.BroadcastsInDim s (![] : Fin 0 → Fin s.rank)) (axes : List (Fin s.rank))
    (hr : s.ReducesTo axes S_) (j : S_.Idx)
    (e : Host.reduce IntOp.andi (cmpf .olt (Host.absf x) (broadcastInDim s ![] hb (constant (F := Ideal) S_ .f32 0x7F800000#32))) (constantI S_ 1 1#1) hr h_S_ j = 1#1) :
    Real' x := fun i => by
  have h := lt_of_cmp _ _ i (Host.reduce_andi_all _ _ hr h_S_ j e i)
  refine real_of_abs (h.trans_le le_top)

theorem slice_at (a1 : FVec Ideal S16384x256 .f32) (j : Fin 16384) (l : Fin 256) (hl : l.val < 128) :
    extractStridedSlice S16384x128 ![0, 0] a1 slices_S16384x256_S16384x128_0_0 (ix2 j ⟨l.val, hl⟩) = a1 (ix2 j l) := by
  pointwise

theorem reals_of_finite (a0 : FVec Ideal S16384x512 .f32) (a1 : FVec Ideal S16384x256 .f32) (a2 : FVec Ideal S16384x512 .f32)
    (a3 : FVec Ideal S16384x1024 .f32) (a4 : FVec Ideal S1x8 .f32) (h : Cert.Pre_finite.fn a0 a1 a2 a3 a4 = fun _ => 1#1) :
    Real' a0 ∧ Keys' a1 := by
  have e := congrFun h (Shape.Idx.first h_S_)
  obtain ⟨e0, e1⟩ := IntOp.andi_eq_one.1 e
  refine ⟨real_of_all a0 _ _ _ _ e0, fun j l hl => ?_⟩
  obtain ⟨y, hy⟩ := real_of_all _ _ _ _ _ e1 (ix2 j ⟨l.val, hl⟩)
  exact ⟨y, (slice_at a1 j l hl).symm.trans hy⟩

end

open Cert.AttnRefIdeal.Val in
theorem refO_congr {Q Q' : FVec Ideal Cert.AttnRefIdeal.S16384x512 .f32} {K K' : FVec Ideal Cert.AttnRefIdeal.S16384x256 .f32}
    {s s' : FVec Ideal Cert.AttnRefIdeal.S1x8 .f32} (h0 : Q = Q') (h1 : K = K') (h2 : s = s') :
    refO (refS refM (refQ Q) (refK K)) (refV K) s = refO (refS refM (refQ Q') (refK K')) (refV K') s' := by
  subst h0 h1 h2; rfl

/-- The windowed attention's result is the reference's. -/
theorem algebraic_attn : @Cert.algebraic_KernelIdeal_AttnRefIdeal_pre_finite Cert.KernelIdeal.Gen.facts Cert.AttnRefIdeal.Gen.facts Cert.Pre_finite.Gen.facts := by
  intro m g m' g' hpre hag
  have hre := fun c => reals_of_finite _ _ _ _ _ (hpre c)
  refine ⟨fun c => Cert.KernelIdeal.Attn.RO m c, ?_, ?_⟩
  · refine (θ_run _ _ _).mono (fun r h c => ?_) (θ_run_and (Cert.KernelIdeal.Attn.run_main m g) (Cert.KernelIdeal.Attn.frame m g))
    obtain ⟨h9, hr⟩ := h
    exact ⟨((h9 c).1 9).trans (Cert.KernelIdeal.Attn.final9 m (fun c => (hre c).1) (fun c => (hre c).2) c), hr.1 c⟩
  · refine (θ_run _ _ _).mono (fun r h c => ?_) (Cert.AttnRefIdeal.Value.run m' g')
    obtain ⟨h0, hr⟩ := h c
    obtain ⟨a0, a1, a2, a3, a4⟩ := hag c
    exact ⟨h0.trans ((Cert.AttnRefIdeal.Val.out0_eq m' c).trans (refO_congr a0 a1 a4)), hr⟩

theorem frame_attnref : @Cert.quiescent_AttnRefIdeal Cert.AttnRefIdeal.Gen.facts := fun m g _ =>
  (θ_run _ _ _).mono (fun r h => ⟨fun c => (h c).2, sem_eq_zero_of_no_sems (by decide) r.2⟩)
    (Cert.AttnRefIdeal.Value.run m g)

theorem preserves_attn : Cert.preserves_Kernel_KernelIdeal := IdealRules.named_const.statement _ _ _ _ _ rfl

end Cert.Proof

end
-- ==== Proof.MixRef.lean ====
module

public import proofs.«01_k».proof.Proof.Gen.MixRefIdeal.Run
public import Idealize.ShloMosaic.Lib.Pipeline.ValueKit

/-! The reference's results of the second output projection, one stage at a time: the mixed activations, their
normalised form, and the two transposed results made of that. -/

@[expose] public section

set_option maxRecDepth 16384

noncomputable section

namespace Cert.MixRefIdeal.Val

open Cert.MixRefIdeal Cert.MixRefIdeal.Gen Idealize.ShloMosaic Idealize.ShloMosaic.TcCoe Idealize.SL.Sem Idealize.ShloMosaic.StableHlo

/-- The residual sum: two normalised heads side by side through the output matrix, added to the input. -/
def refX (X0 X1 : FVec Ideal S16384x512 .f32) (X2 : FVec Ideal S16384x1024 .f32) (G3 G4 : FVec Ideal S1x512 .f32)
    (W5 : FVec Ideal S1x1024x1024 .f32) : FVec Ideal S16384x1024 .f32 :=
  addf X2 (Host.dotGeneral dot_S16384x1024_S1024x1024_S16384x1024_1_0_0_1_n_n none (concatenate S16384x1024 1 [⟨S16384x512, (mulf (mulf X0 (broadcastInDim S16384x512 ![0, 1] bcast_S16384x1_S16384x512_0_1 (Host.rsqrt (addf (Host.divf (broadcastInDim S16384x1 ![0] bcast_S16384_S16384x1_0 (Host.reduceAdd (mulf X0 X0) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 (broadcastInDim S1x512 ![1] bcast_S512_S1x512_1 (shapeCast _ G3 shapeCasts_S1x512_S512))))⟩, ⟨S16384x512, (mulf (mulf X1 (broadcastInDim S16384x512 ![0, 1] bcast_S16384x1_S16384x512_0_1 (Host.rsqrt (addf (Host.divf (broadcastInDim S16384x1 ![0] bcast_S16384_S16384x1_0 (Host.reduceAdd (mulf X1 X1) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 (broadcastInDim S1x512 ![1] bcast_S512_S1x512_1 (shapeCast _ G4 shapeCasts_S1x512_S512))))⟩] concatenates_S16384x512_S16384x512_S16384x1024_d1) (shapeCast _ W5 shapeCasts_S1x1024x1024_S1024x1024))

/-- The residual sum normalised row by row. -/
def refH (X : FVec Ideal S16384x1024 .f32) (G6 : FVec Ideal S1x1024 .f32) : FVec Ideal S16384x1024 .f32 :=
  (mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ G6 shapeCasts_S1x1024_S1024))))

/-- The normalised rows, transposed. -/
def refT (H : FVec Ideal S16384x1024 .f32) : FVec Ideal S1024x16384 .bf16 :=
  truncf .bf16 (transpose S1024x16384 [1, 0] H transposes_S16384x1024_S1024x16384_1_0) bitsLt_bf16_f32

/-- The scores of every query half against its sub-keys. -/
def refS (H : FVec Ideal S16384x1024 .f32) (W7 : FVec Ideal S1x1024x2048 .f32) (K8 : FVec Ideal S1x8x2x128x128 .f32) :
    FVec Ideal S16x128x16384 .f32 :=
  shapeCast _ (transpose S8x2x128x16384 [1, 2, 3, 0] (transpose S16384x8x2x128 [3, 0, 1, 2] (Host.dotGeneral dot_S8x2x128x128_S16384x8x2x128_S8x2x128x16384_3_3_2_0_01_12 none (shapeCast _ K8 shapeCasts_S1x8x2x128x128_S8x2x128x128) (shapeCast _ (Host.dotGeneral dot_S16384x1024_S1024x2048_S16384x2048_1_0_0_1_n_n none H (shapeCast _ W7 shapeCasts_S1x1024x2048_S1024x2048)) shapeCasts_S16384x2048_S16384x8x2x128)) transposes_S8x2x128x16384_S16384x8x2x128_3_0_1_2) transposes_S16384x8x2x128_S8x2x128x16384_1_2_3_0) shapeCasts_S8x2x128x16384_S16x128x16384

variable (m : (ℓ : Loc nD τ sig) → Buf (Elt Ideal) ℓ) (c : Dev nD)

theorem out1_eq : Cert.MixRefIdeal.Value.res_out1 m c
    = refT (refH (refX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6))) := rfl

theorem out2_eq : Cert.MixRefIdeal.Value.res_out2 m c
    = refS (refH (refX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)))
        (m ((c.tc : Thread nD τ).loc main_arg7)) (m ((c.tc : Thread nD τ).loc main_arg8)) := rfl

end Cert.MixRefIdeal.Val

end
-- ==== Proof.MixX.lean ====
module

public import proofs.«01_k».proof.Proof.Gen.MixIdeal.Frame
public import proofs.«01_k».proof.Proof.MixRef

/-! One grid point of the second output projection: what each payload is, against the reference's stage. -/

@[expose] public section

set_option maxRecDepth 16384

noncomputable section

namespace Cert.MixIdeal.Val

open Cert.MixIdeal Cert.MixIdeal.Gen Idealize.ShloMosaic Idealize.ShloMosaic.TcCoe Idealize.SL.Sem
open Idealize.ShloMosaic.Pipeline (Dat)
open Cert.MixRefIdeal.Val (refX refH refT refS)

variable (m : (ℓ : Loc nD τ sig) → Buf (Elt Ideal) ℓ)

/-- Every window's block index at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0, 0] ∧ win0_9.index t = ![t.val, 0] ∧ win0_10.index t = ![0, t.val]
    ∧ win0_11.index t = ![0, 0, t.val] :=
  (by decide +kernel : ∀ t : Fin grid0.N, _)

/-- The reference's residual sum over this program's arguments. -/
abbrev RX (c : Dev nD) : FVec Ideal S16384x1024 .f32 :=
  refX (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The reference's normalised rows over this program's arguments. -/
abbrev RH (c : Dev nD) : FVec Ideal S16384x1024 .f32 := refH (RX m c) (m ((c : Thread nD τ).loc main_arg6))

theorem x_at (c : Dev nD) (t : Fin cfg0.N) (y : S256x1024.Idx) (j : S16384x1024.Idx)
    (hj0 : (j 0 : ℕ) = t.val * 256 + y 0) (hj1 : (j 1 : ℕ) = y 1) :
    k0_pay25 (F := Ideal) (iblk m c 0 t) (iblk m c 1 t) (iblk m c 2 t) (iblk m c 3 t) (iblk m c 4 t) (iblk m c 5 t)
      (iblk m c 6 t) (iblk m c 7 t) (iblk m c 8 t) y = RX m c j := by
  pointwise [k0_pay25, k0_pay4, refX]
  blk_point [iblk, V, idx t]

theorem h_at (t : ℕ) (v : FVec Ideal S256x1024 .f32) (g : Vec Ideal S1x1024 .f32) (X : FVec Ideal S16384x1024 .f32) (G : FVec Ideal S1x1024 .f32)
    (hX : ∀ (r : Fin 256) (l : Fin 1024) (r' : Fin 16384), (r' : ℕ) = t * 256 + r → v (ix2 r l) = X (ix2 r' l))
    (hg : ∀ l : Fin 1024, g (ix2 0 l) = G (ix2 0 l))
    (r : Fin 256) (l : Fin 1024) (r' : Fin 16384) (hr : (r' : ℕ) = t * 256 + r) :
    k0_pay5 (F := Ideal) v g (ix2 r l) = refH X G (ix2 r' l) := by
  pointwise [k0_pay5, refH]
  simp only [hX _ _ r' hr, hg]

end Cert.MixIdeal.Val

end
-- ==== Proof.MixS.lean ====
module

public import proofs.«01_k».proof.Proof.MixX

/-! The second projection's scores at one grid point, against the reference's. -/

@[expose] public section

set_option maxRecDepth 16384

noncomputable section

namespace Cert.MixIdeal.Val

open Cert.MixIdeal Cert.MixIdeal.Gen Idealize.ShloMosaic Idealize.ShloMosaic.TcCoe Idealize.SL.Sem
open Idealize.ShloMosaic.Pipeline (Dat)
open Cert.MixRefIdeal.Val (refX refH refT refS)

variable (m : (ℓ : Loc nD τ sig) → Buf (Elt Ideal) ℓ)

/-- A block of queries: the normalised rows through the query matrix. -/
theorem q_at (t : ℕ) (v : FVec Ideal S256x1024 .f32) (g : Vec Ideal S1x1024 .f32) (w : Vec Ideal S1024x2048 .bf16)
    (X : FVec Ideal S16384x1024 .f32) (G : FVec Ideal S1x1024 .f32) (W : FVec Ideal S1x1024x2048 .f32)
    (hX : ∀ (r : Fin 256) (l : Fin 1024) (r' : Fin 16384), (r' : ℕ) = t * 256 + r → v (ix2 r l) = X (ix2 r' l))
    (hg : ∀ l : Fin 1024, g (ix2 0 l) = G (ix2 0 l))
    (hw : ∀ (l : Fin 1024) (n : Fin 2048), w (ix2 l n) = W (ix3 0 l n))
    (r : Fin 256) (n : Fin 2048) (r' : Fin 16384) (hr : (r' : ℕ) = t * 256 + r) :
    k0_pay7 (F := Ideal) v g w (ix2 r n) = ∑ e : Fin 1024, refH X G (ix2 r' e) * W (ix3 0 e n) := by
  pointwise [k0_pay7]
  exact Finset.sum_congr rfl fun e _ => by rw [h_at t v g X G hX hg r e r' hr, hw]

/-- The scores of a block of queries: each sub-key table against its slice of the query. -/
def sc (q : FVec Ideal S256x2048 .bf16) (K : Vec Ideal S16x128x128 .bf16) (i : Fin 16) (k : Fin 128) (r : Fin 256) : EReal :=
  ∑ d : Fin 128, (show EReal from K (ix3 i k d)) * (show EReal from q (ix2 r ⟨i.val * 128 + d.val, by omega⟩))

theorem sc_at (t : ℕ) (q : FVec Ideal S256x2048 .bf16) (K : Vec Ideal S16x128x128 .bf16) (H : FVec Ideal S16384x1024 .f32)
    (W : FVec Ideal S1x1024x2048 .f32) (K8 : FVec Ideal S1x8x2x128x128 .f32)
    (hq : ∀ (r : Fin 256) (n : Fin 2048) (r' : Fin 16384), (r' : ℕ) = t * 256 + r →
      q (ix2 r n) = ∑ e : Fin 1024, H (ix2 r' e) * W (ix3 0 e n))
    (hK : ∀ (i : Fin 16) (k d : Fin 128), K (ix3 i k d) = K8 (ix5 0 ⟨i.val / 2, by omega⟩ ⟨i.val % 2, by omega⟩ k d))
    (i : Fin 16) (k : Fin 128) (r : Fin 256) (r' : Fin 16384) (hr : (r' : ℕ) = t * 256 + r) :
    sc q K i k r = refS H W K8 (ix3 i k r') := by
  unfold sc
  pointwise [refS]
  refine Finset.sum_congr rfl fun d _ => ?_
  rw [hq _ _ r' hr, hK]
  have e : i.val / 2 * 256 + i.val % 2 * 128 + d.val = i.val * 128 + d.val := by omega
  simp only [e]

theorem out11_at (x0 : Vec Ideal S256x512 .f32) (x1 : Vec Ideal S256x512 .f32) (x2 : Vec Ideal S256x1024 .f32) (x3 : Vec Ideal S1x512 .f32) (x4 : Vec Ideal S1x512 .f32) (x5 : Vec Ideal S1024x1024 .bf16) (x6 : Vec Ideal S1x1024 .f32) (x7 : Vec Ideal S1024x2048 .bf16) (x8 : Vec Ideal S16x128x128 .bf16)
    (y : S16x128x256.Idx) :
    out0_11 x0 x1 x2 x3 x4 x5 x6 x7 x8 y = sc (k0_pay26 x0 x1 x2 x3 x4 x5 x6 x7 x8) x8 (y 0) (y 1) (y 2) := by
  unfold out0_11
  canon_tiles x h
  all_goals
    unfold sc k0_pay26
    pointwise [k0_pay1, k0_pay2, k0_pay3, k0_pay8, k0_pay9, k0_pay10, k0_pay11, k0_pay12, k0_pay13, k0_pay14, k0_pay15, k0_pay16, k0_pay17, k0_pay18, k0_pay19, k0_pay20, k0_pay21, k0_pay22, k0_pay23, k0_pay24]
    blk_point []

end Cert.MixIdeal.Val

end
-- ==== Proof.MixValue.lean ====
module

public import proofs.«01_k».proof.Proof.MixS

/-! The second projection's three result arrays after the run: the reference's. -/

@[expose] public section

set_option maxRecDepth 16384

noncomputable section

namespace Cert.MixIdeal.Val

open Cert.MixIdeal Cert.MixIdeal.Gen Idealize.ShloMosaic Idealize.ShloMosaic.TcCoe Idealize.SL.Sem
open Idealize.ShloMosaic.Pipeline (Dat)
open Cert.MixRefIdeal.Val (refX refH refT refS)

variable (m : (ℓ : Loc nD τ sig) → Buf (Elt Ideal) ℓ)

/-- The block of normalising weights is the weights. -/
theorem g_at (c : Dev nD) (t : Fin cfg0.N) (l : Fin 1024) :
    (View.ld (iblk m c 6 t) r0_4 : Vec Ideal S1x1024 .f32) (ix2 0 l) = m ((c : Thread nD τ).loc main_arg6) (ix2 0 l) := by
  pointwise
  blk_point [iblk, V, idx t]

theorem w_at (c : Dev nD) (t : Fin cfg0.N) (l : Fin 1024) (n : Fin 2048) :
    (View.ld (iblk m c 7 t) r0_6 : Vec Ideal S1024x2048 .bf16) (ix2 l n) = m ((c : Thread nD τ).loc main_arg7) (ix3 0 l n) := by
  pointwise
  blk_point [iblk, V, idx t]

theorem k_at (c : Dev nD) (t : Fin cfg0.N) (i : Fin 16) (k d : Fin 128) :
    (iblk m c 8 t : Vec Ideal S16x128x128 .bf16) (ix3 i k d)
      = m ((c : Thread nD τ).loc main_arg8) (ix5 0 ⟨i.val / 2, by omega⟩ ⟨i.val % 2, by omega⟩ k d) := by
  blk_point [iblk, V, idx t]

theorem xr (c : Dev nD) (t : Fin cfg0.N) (r : Fin 256) (l : Fin 1024) (r' : Fin 16384) (hr : (r' : ℕ) = t.val * 256 + r) :
    k0_pay25 (F := Ideal) (iblk m c 0 t) (iblk m c 1 t) (iblk m c 2 t) (iblk m c 3 t) (iblk m c 4 t) (iblk m c 5 t)
      (iblk m c 6 t) (iblk m c 7 t) (iblk m c 8 t) (ix2 r l) = RX m c (ix2 r' l) :=
  x_at m c t (ix2 r l) (ix2 r' l) hr rfl

theorem g_at' (c : Dev nD) (t : Fin cfg0.N) (l : Fin 1024) :
    (iblk m c 6 t : Vec Ideal S1x1024 .f32) (ix2 0 l) = m ((c : Thread nD τ).loc main_arg6) (ix2 0 l) := by
  blk_point [iblk, V, idx t]

/-- A block of the transposed normalised rows. -/
theorem t_at (c : Dev nD) (t : Fin cfg0.N) (y : S1024x256.Idx) (j : S1024x16384.Idx)
    (hj0 : (j 0 : ℕ) = y 0) (hj1 : (j 1 : ℕ) = t.val * 256 + y 1) :
    k0_pay6 (F := Ideal) (k0_pay25 (F := Ideal) (iblk m c 0 t) (iblk m c 1 t) (iblk m c 2 t) (iblk m c 3 t) (iblk m c 4 t) (iblk m c 5 t)
      (iblk m c 6 t) (iblk m c 7 t) (iblk m c 8 t)) (iblk m c 6 t) y = refT (RH m c) j := by
  idx_vars y
  idx_vars j
  obtain rfl : j0 = y0 := Fin.ext hj0
  pointwise [k0_pay6, refT]
  exact h_at t.val _ _ _ _ (xr m c t) (g_at' m c t) y1 j0 j1 hj1

/-- A block of the scores. -/
theorem s_at (c : Dev nD) (t : Fin cfg0.N) (y : S16x128x256.Idx) (j : S16x128x16384.Idx)
    (hj0 : (j 0 : ℕ) = y 0) (hj1 : (j 1 : ℕ) = y 1) (hj2 : (j 2 : ℕ) = t.val * 256 + y 2) :
    out0_11 (F := Ideal) (iblk m c 0 t) (iblk m c 1 t) (iblk m c 2 t) (iblk m c 3 t) (iblk m c 4 t) (iblk m c 5 t)
      (iblk m c 6 t) (iblk m c 7 t) (iblk m c 8 t) y
      = refS (RH m c) (m ((c : Thread nD τ).loc main_arg7)) (m ((c : Thread nD τ).loc main_arg8)) j := by
  rw [out11_at]
  idx_vars y
  idx_vars j
  obtain rfl : j0 = y0 := Fin.ext hj0
  obtain rfl : j1 = y1 := Fin.ext hj1
  exact sc_at t.val _ _ _ _ _ (fun r n r' hr => q_at t.val _ _ _ _ _ _ (xr m c t) (g_at m c t) (w_at m c t) r n r' hr)
    (k_at m c t) j0 j1 y2 j2 hj2

theorem final9 (c : Dev nD) : (dats m 0 c).arrAt 9 (cfgs 0).N = RX m c := by
  refine (dats m 0 c).arrAt_eq_of_covers 9 _ (by decide +kernel) fun t _ y => ?_
  blk_simp
  rw [after0_9]
  frame_out
  exact x_at m c t y _ (by blk_simp [idx t]) (by blk_simp [idx t])

theorem final10 (c : Dev nD) : (dats m 0 c).arrAt 10 (cfgs 0).N = refT (RH m c) := by
  refine (dats m 0 c).arrAt_eq_of_covers 10 _ (by decide +kernel) fun t _ y => ?_
  blk_simp
  rw [after0_10]
  frame_out
  exact t_at m c t y _ (by blk_simp [idx t]) (by blk_simp [idx t])

theorem final11 (c : Dev nD) : (dats m 0 c).arrAt 11 (cfgs 0).N
    = refS (RH m c) (m ((c : Thread nD τ).loc main_arg7)) (m ((c : Thread nD τ).loc main_arg8)) := by
  refine (dats m 0 c).arrAt_eq_of_covers 11 _ (by decide +kernel) fun t _ y => ?_
  blk_simp
  rw [after0_11]
  exact s_at m c t y _ (by blk_simp [idx t]) (by blk_simp [idx t]) (by blk_simp [idx t])

end Cert.MixIdeal.Val

end
-- ==== Proof.MixClaim.lean ====
module

public import proofs.«01_k».proof.Defs
public import proofs.«01_k».proof.Proof.MixValue
public import proofs.«01_k».proof.Proof.Gen.MixIdeal.Value
public import proofs.«01_k».proof.Proof.Gen.MixRefIdeal.Run
public import Idealize.ShloMosaic.Lib.Claim

/-! The second output projection against its reference: the claim. -/

@[expose] public section

set_option maxRecDepth 16384

noncomputable section

namespace Cert.Proof

open Idealize.ShloMosaic Idealize.SL.Sem

open Cert.MixRefIdeal.Val in
theorem refX_congr {X0 Y0 X1 Y1 : FVec Ideal Cert.MixRefIdeal.S16384x512 .f32} {X2 Y2 : FVec Ideal Cert.MixRefIdeal.S16384x1024 .f32}
    {G3 K3 G4 K4 : FVec Ideal Cert.MixRefIdeal.S1x512 .f32} {W5 Z5 : FVec Ideal Cert.MixRefIdeal.S1x1024x1024 .f32}
    (h0 : X0 = Y0) (h1 : X1 = Y1) (h2 : X2 = Y2) (h3 : G3 = K3) (h4 : G4 = K4) (h5 : W5 = Z5) :
    refX X0 X1 X2 G3 G4 W5 = refX Y0 Y1 Y2 K3 K4 Z5 := by
  subst h0 h1 h2 h3 h4 h5; rfl

open Cert.MixRefIdeal.Val in
theorem refH_congr {X Y : FVec Ideal Cert.MixRefIdeal.S16384x1024 .f32} {G K : FVec Ideal Cert.MixRefIdeal.S1x1024 .f32}
    (h0 : X = Y) (h1 : G = K) : refH X G = refH Y K := by
  subst h0 h1; rfl

open Cert.MixRefIdeal.Val in
theorem refS_congr {X Y : FVec Ideal Cert.MixRefIdeal.S16384x1024 .f32} {W Z : FVec Ideal Cert.MixRefIdeal.S1x1024x2048 .f32}
    {K L : FVec Ideal Cert.MixRefIdeal.S1x8x2x128x128 .f32}
    (h0 : X = Y) (h1 : W = Z) (h2 : K = L) : refS X W K = refS Y Z L := by
  subst h0 h1 h2; rfl

/-- The output projection's three results are the reference's. -/
theorem algebraic_mix : @Cert.algebraic_MixIdeal_MixRefIdeal Cert.MixIdeal.Gen.facts Cert.MixRefIdeal.Gen.facts := by
  intro m g m' g' _ hag
  refine ⟨fun c => Cert.MixIdeal.Val.RX m c, fun c => Cert.MixRefIdeal.Val.refT (Cert.MixIdeal.Val.RH m c),
    fun c => Cert.MixRefIdeal.Val.refS (Cert.MixIdeal.Val.RH m c) (m ((c.tc : Thread Cert.MixIdeal.nD Cert.MixIdeal.τ).loc Cert.MixIdeal.main_arg7)) (m ((c.tc : Thread Cert.MixIdeal.nD Cert.MixIdeal.τ).loc Cert.MixIdeal.main_arg8)), ?_, ?_⟩
  · refine (θ_run _ _ _).mono (fun r h c => ?_) (Cert.MixIdeal.Value.run_blocks m g)
    obtain ⟨h9, h10, h11, hr⟩ := h c
    exact ⟨h9.trans (Cert.MixIdeal.Val.final9 m c), h10.trans (Cert.MixIdeal.Val.final10 m c),
      h11.trans (Cert.MixIdeal.Val.final11 m c), hr⟩
  · refine (θ_run _ _ _).mono (fun r h c => ?_) (Cert.MixRefIdeal.Value.run m' g')
    obtain ⟨h0, h1, h2, hr⟩ := h c
    obtain ⟨a0, a1, a2, a3, a4, a5, a6, a7, a8⟩ := hag c
    have hx := refX_congr a0 a1 a2 a3 a4 a5
    have hh := refH_congr hx a6
    exact ⟨h0.trans hx, h1.trans ((Cert.MixRefIdeal.Val.out1_eq m' c).trans (congrArg Cert.MixRefIdeal.Val.refT hh)),
      h2.trans ((Cert.MixRefIdeal.Val.out2_eq m' c).trans (refS_congr hh a7 a8)), hr⟩

/-- The reference's frame: host operations only, no semaphore. -/
theorem frame_mixref : @Cert.quiescent_MixRefIdeal Cert.MixRefIdeal.Gen.facts := fun m g _ =>
  (θ_run _ _ _).mono (fun r h => ⟨fun c => (h c).2.2.2, sem_eq_zero_of_no_sems (by decide) r.2⟩)
    (Cert.MixRefIdeal.Value.run m g)

end Cert.Proof

end
-- ==== Proof.ProjRef.lean ====
module

public import proofs.«01_k».proof.Proof.Gen.ProjRefIdeal
public import Idealize.ShloMosaic.Lib.Pipeline.ValueKit

/-! The reference's results of the first projection, one stage at a time: the normalised rows through the input
matrix, the rotary turn of one tensor of heads, and the four results made of them. -/

@[expose] public section

set_option maxRecDepth 16384

noncomputable section

namespace Cert.ProjRefIdeal.Val

open Cert.ProjRefIdeal Cert.ProjRefIdeal.Gen Idealize.ShloMosaic Idealize.ShloMosaic.TcCoe Idealize.SL.Sem Idealize.ShloMosaic.StableHlo

/-- The normalised rows through the input matrix. -/
def refZ (X0 : FVec Ideal S2x8192x1024 .f32) (G1 : FVec Ideal S1x1024 .f32) (W2 : FVec Ideal S1x1024x2304 .f32) : FVec Ideal S2x8192x2304 .f32 :=
  (Host.dotGeneral dot_S2x8192x1024_S1024x2304_S2x8192x2304_2_0_01_1_n_n none (mulf (mulf X0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X0 X0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ G1 shapeCasts_S1x1024_S1024)))) (shapeCast _ W2 shapeCasts_S1x1024x2304_S1024x2304))

/-- The cosines of every position's angles. -/
def refC : FVec Ideal S8192x8 .f32 :=
  (Host.cos (mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))))

/-- The sines of every position's angles. -/
def refN : FVec Ideal S8192x8 .f32 :=
  (Host.sin (mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))))

/-- Eight heads turned by their position. -/
def rope8 (X : FVec Ideal S2x8192x8x64 .f32) (C S : FVec Ideal S8192x8 .f32) : FVec Ideal S2x8192x8x64 .f32 :=
  (concatenate S2x8192x8x64 3 [⟨S2x8192x8x16, (concatenate S2x8192x8x16 3 [⟨S2x8192x8x8, (subf (mulf (extractStridedSlice S2x8192x8x8 ![0, 0, 0, 0] (extractStridedSlice S2x8192x8x16 ![0, 0, 0, 0] X slices_S2x8192x8x64_S2x8192x8x16_0_0_0_0) slices_S2x8192x8x16_S2x8192x8x8_0_0_0_0) (broadcastInDim S2x8192x8x8 ![0, 1, 2, 3] bcast_S1x8192x1x8_S2x8192x8x8_0_1_2_3 (broadcastInDim S1x8192x1x8 ![1, 2, 3] bcast_S8192x1x8_S1x8192x1x8_1_2_3 (broadcastInDim S8192x1x8 ![0, 2] bcast_S8192x8_S8192x1x8_0_2 C)))) (mulf (extractStridedSlice S2x8192x8x8 ![0, 0, 0, 8] (extractStridedSlice S2x8192x8x16 ![0, 0, 0, 0] X slices_S2x8192x8x64_S2x8192x8x16_0_0_0_0) slices_S2x8192x8x16_S2x8192x8x8_0_0_0_8) (broadcastInDim S2x8192x8x8 ![0, 1, 2, 3] bcast_S1x8192x1x8_S2x8192x8x8_0_1_2_3 (broadcastInDim S1x8192x1x8 ![1, 2, 3] bcast_S8192x1x8_S1x8192x1x8_1_2_3 (broadcastInDim S8192x1x8 ![0, 2] bcast_S8192x8_S8192x1x8_0_2 S)))))⟩, ⟨S2x8192x8x8, (addf (mulf (extractStridedSlice S2x8192x8x8 ![0, 0, 0, 8] (extractStridedSlice S2x8192x8x16 ![0, 0, 0, 0] X slices_S2x8192x8x64_S2x8192x8x16_0_0_0_0) slices_S2x8192x8x16_S2x8192x8x8_0_0_0_8) (broadcastInDim S2x8192x8x8 ![0, 1, 2, 3] bcast_S1x8192x1x8_S2x8192x8x8_0_1_2_3 (broadcastInDim S1x8192x1x8 ![1, 2, 3] bcast_S8192x1x8_S1x8192x1x8_1_2_3 (broadcastInDim S8192x1x8 ![0, 2] bcast_S8192x8_S8192x1x8_0_2 C)))) (mulf (extractStridedSlice S2x8192x8x8 ![0, 0, 0, 0] (extractStridedSlice S2x8192x8x16 ![0, 0, 0, 0] X slices_S2x8192x8x64_S2x8192x8x16_0_0_0_0) slices_S2x8192x8x16_S2x8192x8x8_0_0_0_0) (broadcastInDim S2x8192x8x8 ![0, 1, 2, 3] bcast_S1x8192x1x8_S2x8192x8x8_0_1_2_3 (broadcastInDim S1x8192x1x8 ![1, 2, 3] bcast_S8192x1x8_S1x8192x1x8_1_2_3 (broadcastInDim S8192x1x8 ![0, 2] bcast_S8192x8_S8192x1x8_0_2 S)))))⟩] concatenates_S2x8192x8x8_S2x8192x8x8_S2x8192x8x16_d3)⟩, ⟨S2x8192x8x48, (extractStridedSlice S2x8192x8x48 ![0, 0, 0, 16] X slices_S2x8192x8x64_S2x8192x8x48_0_0_0_16)⟩] concatenates_S2x8192x8x16_S2x8192x8x48_S2x8192x8x64_d3)

/-- Two heads turned by their position. -/
def rope2 (X : FVec Ideal S2x8192x2x64 .f32) (C S : FVec Ideal S8192x8 .f32) : FVec Ideal S2x8192x2x64 .f32 :=
  (concatenate S2x8192x2x64 3 [⟨S2x8192x2x16, (concatenate S2x8192x2x16 3 [⟨S2x8192x2x8, (subf (mulf (extractStridedSlice S2x8192x2x8 ![0, 0, 0, 0] (extractStridedSlice S2x8192x2x16 ![0, 0, 0, 0] X slices_S2x8192x2x64_S2x8192x2x16_0_0_0_0) slices_S2x8192x2x16_S2x8192x2x8_0_0_0_0) (broadcastInDim S2x8192x2x8 ![0, 1, 2, 3] bcast_S1x8192x1x8_S2x8192x2x8_0_1_2_3 (broadcastInDim S1x8192x1x8 ![1, 2, 3] bcast_S8192x1x8_S1x8192x1x8_1_2_3 (broadcastInDim S8192x1x8 ![0, 2] bcast_S8192x8_S8192x1x8_0_2 C)))) (mulf (extractStridedSlice S2x8192x2x8 ![0, 0, 0, 8] (extractStridedSlice S2x8192x2x16 ![0, 0, 0, 0] X slices_S2x8192x2x64_S2x8192x2x16_0_0_0_0) slices_S2x8192x2x16_S2x8192x2x8_0_0_0_8) (broadcastInDim S2x8192x2x8 ![0, 1, 2, 3] bcast_S1x8192x1x8_S2x8192x2x8_0_1_2_3 (broadcastInDim S1x8192x1x8 ![1, 2, 3] bcast_S8192x1x8_S1x8192x1x8_1_2_3 (broadcastInDim S8192x1x8 ![0, 2] bcast_S8192x8_S8192x1x8_0_2 S)))))⟩, ⟨S2x8192x2x8, (addf (mulf (extractStridedSlice S2x8192x2x8 ![0, 0, 0, 8] (extractStridedSlice S2x8192x2x16 ![0, 0, 0, 0] X slices_S2x8192x2x64_S2x8192x2x16_0_0_0_0) slices_S2x8192x2x16_S2x8192x2x8_0_0_0_8) (broadcastInDim S2x8192x2x8 ![0, 1, 2, 3] bcast_S1x8192x1x8_S2x8192x2x8_0_1_2_3 (broadcastInDim S1x8192x1x8 ![1, 2, 3] bcast_S8192x1x8_S1x8192x1x8_1_2_3 (broadcastInDim S8192x1x8 ![0, 2] bcast_S8192x8_S8192x1x8_0_2 C)))) (mulf (extractStridedSlice S2x8192x2x8 ![0, 0, 0, 0] (extractStridedSlice S2x8192x2x16 ![0, 0, 0, 0] X slices_S2x8192x2x64_S2x8192x2x16_0_0_0_0) slices_S2x8192x2x16_S2x8192x2x8_0_0_0_0) (broadcastInDim S2x8192x2x8 ![0, 1, 2, 3] bcast_S1x8192x1x8_S2x8192x2x8_0_1_2_3 (broadcastInDim S1x8192x1x8 ![1, 2, 3] bcast_S8192x1x8_S1x8192x1x8_1_2_3 (broadcastInDim S8192x1x8 ![0, 2] bcast_S8192x8_S8192x1x8_0_2 S)))))⟩] concatenates_S2x8192x2x8_S2x8192x2x8_S2x8192x2x16_d3)⟩, ⟨S2x8192x2x48, (extractStridedSlice S2x8192x2x48 ![0, 0, 0, 16] X slices_S2x8192x2x64_S2x8192x2x48_0_0_0_16)⟩] concatenates_S2x8192x2x16_S2x8192x2x48_S2x8192x2x64_d3)

/-- The turned queries of the window's heads, as rows. -/
def refQA (Z : FVec Ideal S2x8192x2304 .f32) (C S : FVec Ideal S8192x8 .f32) : FVec Ideal S16384x512 .f32 :=
  shapeCast _ (shapeCast _ (rope8 (shapeCast _ (extractStridedSlice S2x8192x512 ![0, 0, 0] Z slices_S2x8192x2304_S2x8192x512_0_0_0) shapeCasts_S2x8192x512_S2x8192x8x64) C S) shapeCasts_S2x8192x8x64_S2x8192x2x4x64) shapeCasts_S2x8192x2x4x64_S16384x512

/-- The turned keys and the values of the window's heads, as rows. -/
def refKVA (Z : FVec Ideal S2x8192x2304 .f32) (C S : FVec Ideal S8192x8 .f32) : FVec Ideal S16384x256 .f32 :=
  concatenate S16384x256 1 [⟨S16384x128, (shapeCast _ (rope2 (shapeCast _ (extractStridedSlice S2x8192x128 ![0, 0, 512] Z slices_S2x8192x2304_S2x8192x128_0_0_512) shapeCasts_S2x8192x128_S2x8192x2x64) C S) shapeCasts_S2x8192x2x64_S16384x128)⟩, ⟨S16384x128, (shapeCast _ (shapeCast _ (extractStridedSlice S2x8192x128 ![0, 0, 640] Z slices_S2x8192x2304_S2x8192x128_0_0_640) shapeCasts_S2x8192x128_S2x8192x2x64) shapeCasts_S2x8192x2x64_S16384x128)⟩] concatenates_S16384x128_S16384x128_S16384x256_d1

/-- The turned queries of the dilated heads, as rows. -/
def refQB (Z : FVec Ideal S2x8192x2304 .f32) (C S : FVec Ideal S8192x8 .f32) : FVec Ideal S16384x512 .f32 :=
  shapeCast _ (rope8 (shapeCast _ (extractStridedSlice S2x8192x512 ![0, 0, 768] Z slices_S2x8192x2304_S2x8192x512_0_0_768) shapeCasts_S2x8192x512_S2x8192x8x64) C S) shapeCasts_S2x8192x8x64_S16384x512

/-- The turned keys and the values of the dilated heads, as rows. -/
def refKVB (Z : FVec Ideal S2x8192x2304 .f32) (C S : FVec Ideal S8192x8 .f32) : FVec Ideal S16384x1024 .f32 :=
  concatenate S16384x1024 1 [⟨S16384x512, (shapeCast _ (rope8 (shapeCast _ (extractStridedSlice S2x8192x512 ![0, 0, 1280] Z slices_S2x8192x2304_S2x8192x512_0_0_1280) shapeCasts_S2x8192x512_S2x8192x8x64) C S) shapeCasts_S2x8192x8x64_S16384x512)⟩, ⟨S16384x512, (shapeCast _ (shapeCast _ (extractStridedSlice S2x8192x512 ![0, 0, 1792] Z slices_S2x8192x2304_S2x8192x512_0_0_1792) shapeCasts_S2x8192x512_S2x8192x8x64) shapeCasts_S2x8192x8x64_S16384x512)⟩] concatenates_S16384x512_S16384x512_S16384x1024_d1

end Cert.ProjRefIdeal.Val

end
-- ==== Proof.ProjZ.lean ====
module

public import proofs.«01_k».proof.Proof.Gen.ProjIdeal.Frame
public import proofs.«01_k».proof.Proof.ProjRef

/-! The first projection's product at one grid point, against the reference's. -/

@[expose] public section

set_option maxRecDepth 16384

noncomputable section

namespace Cert.ProjIdeal.Val

open Cert.ProjIdeal Cert.ProjIdeal.Gen Idealize.ShloMosaic Idealize.ShloMosaic.TcCoe Idealize.SL.Sem
open Idealize.ShloMosaic.Pipeline (Dat)
open Cert.ProjRefIdeal.Val (refZ refC refN rope8 rope2 refQA refKVA refQB refKVB)

variable (m : (ℓ : Loc nD τ sig) → Buf (Elt Ideal) ℓ)

/-- Every window's block index at a grid point. -/
theorem idx : ∀ t : Fin cfg0.N, win0_0.index t = ![t.val, 0] ∧ win0_1.index t = ![0, 0] ∧ win0_2.index t = ![0, 0]
    ∧ win0_3.index t = ![t.val % 16, 0] ∧ win0_4.index t = ![t.val % 16, 0] ∧ win0_5.index t = ![t.val % 16, 0]
    ∧ win0_6.index t = ![t.val, 0] ∧ win0_7.index t = ![t.val, 0] ∧ win0_8.index t = ![t.val, 0] ∧ win0_9.index t = ![t.val, 0] :=
  (by decide +kernel : ∀ t : Fin grid0.N, _)

/-- The reference's product over this program's arguments. -/
abbrev RZ (c : Dev nD) : FVec Ideal Cert.ProjRefIdeal.S2x8192x2304 .f32 :=
  refZ (m ((c : Thread nD τ).loc main_arg0)) (m ((c : Thread nD τ).loc main_arg1)) (m ((c : Thread nD τ).loc main_arg2))

theorem z_at (c : Dev nD) (t : Fin cfg0.N) (r : Fin 512) (n : Fin 2304) (b : Fin 2) (s : Fin 8192)
    (h : b.val * 8192 + s.val = t.val * 512 + r.val) :
    k0_pay29 (F := Ideal) (iblk m c 0 t) (iblk m c 1 t) (iblk m c 2 t) (iblk m c 3 t) (iblk m c 4 t) (iblk m c 5 t) (ix2 r n)
      = RZ m c (ix3 b s n) := by
  pointwise [k0_pay29, k0_pay3, refZ]
  blk_point [iblk, V, idx t]

end Cert.ProjIdeal.Val

end
-- ==== Proof.ProjTab.lean ====
module

public import proofs.«01_k».proof.Proof.Gen.ProjIdeal.Frame
public import proofs.«01_k».proof.Proof.ProjRef

/-! The rotary turn of one head, on both sides: the kernel's three tables and two lane rotations against the reference's split, turn and join. -/

@[expose] public section

set_option maxRecDepth 16384

noncomputable section

namespace Cert.ProjIdeal.Val

open Cert.ProjIdeal Cert.ProjIdeal.Gen Idealize.ShloMosaic Idealize.ShloMosaic.TcCoe Idealize.SL.Sem
open Idealize.ShloMosaic.Pipeline (Dat)
open Cert.ProjRefIdeal.Val (refZ refC refN rope8 rope2 refQA refKVA refQB refKVB)

variable (m : (ℓ : Loc nD τ sig) → Buf (Elt Ideal) ℓ)

/-- One head turned: the first eight lanes against the next eight, the other lanes as they are. -/
def turn (z : Fin 64 → EReal) (C S : Fin 8 → EReal) (d : Fin 64) : EReal :=
  if h : d.val < 8 then z d * C ⟨d.val, h⟩ - z ⟨d.val + 8, by omega⟩ * S ⟨d.val, h⟩
  else if h' : d.val < 16 then z d * C ⟨d.val - 8, by omega⟩ + z ⟨d.val - 8, by omega⟩ * S ⟨d.val - 8, by omega⟩
  else z d

theorem rope8_at (X : FVec Ideal Cert.ProjRefIdeal.S2x8192x8x64 .f32) (C S : FVec Ideal S8192x8 .f32) (b : Fin 2) (s : Fin 8192) (h : Fin 8) (d : Fin 64) :
    rope8 X C S (ix4 b s h d) = turn (fun e => X (ix4 b s h e)) (fun k => C (ix2 s k)) (fun k => S (ix2 s k)) d := by
  pointwise [rope8]
  unfold turn
  by_cases h1 : d.val < 8
  · have h2 : d.val < 16 := by omega
    simp only [h1, h2, dif_pos, Nat.add_comm]
  · by_cases h2 : d.val < 16
    · have e : (⟨8 + (d.val - 8), by omega⟩ : Fin 64) = d := Fin.ext (by show 8 + (d.val - 8) = d.val; omega)
      simp only [h1, h2, dif_pos, dif_neg, not_false_eq_true, e]
    · have e : (⟨16 + (d.val - 16), by omega⟩ : Fin 64) = d := Fin.ext (by show 16 + (d.val - 16) = d.val; omega)
      simp only [h1, h2, dif_neg, not_false_eq_true, e]

theorem rope2_at (X : FVec Ideal Cert.ProjRefIdeal.S2x8192x2x64 .f32) (C S : FVec Ideal S8192x8 .f32) (b : Fin 2) (s : Fin 8192) (h : Fin 2) (d : Fin 64) :
    rope2 X C S (ix4 b s h d) = turn (fun e => X (ix4 b s h e)) (fun k => C (ix2 s k)) (fun k => S (ix2 s k)) d := by
  pointwise [rope2]
  unfold turn
  by_cases h1 : d.val < 8
  · have h2 : d.val < 16 := by omega
    simp only [h1, h2, dif_pos, Nat.add_comm]
  · by_cases h2 : d.val < 16
    · have e : (⟨8 + (d.val - 8), by omega⟩ : Fin 64) = d := Fin.ext (by show 8 + (d.val - 8) = d.val; omega)
      simp only [h1, h2, dif_pos, dif_neg, not_false_eq_true, e]
    · have e : (⟨16 + (d.val - 16), by omega⟩ : Fin 64) = d := Fin.ext (by show 16 + (d.val - 16) = d.val; omega)
      simp only [h1, h2, dif_neg, not_false_eq_true, e]

/-- The kernel's table of cosines, ones off the turned lanes. -/
def tabC (C : FVec Ideal S8192x8 .f32) : FVec Ideal S8192x128 .f32 :=
  shapeCast S8192x128 (broadcastInDim S1x8192x2x64 ![0, 1, 2, 3] bcast_S1x8192x1x64_S1x8192x2x64_0_1_2_3 (shapeCast S1x8192x1x64 (concatenate S8192x64 1 [⟨S8192x8, C⟩, ⟨S8192x8, C⟩, ⟨S8192x48, (broadcastInDim S8192x48 ![] bcast_S_S8192x48 (constant S_ .f32 0x3F800000#32) : FVec Ideal S8192x48 .f32)⟩] concatenates_S8192x8_S8192x8_S8192x48_S8192x64_d1) shapeCasts_S8192x64_S1x8192x1x64)) shapeCasts_S1x8192x2x64_S8192x128

/-- The kernel's table of negated sines, on the first eight lanes. -/
def tabL (N : FVec Ideal S8192x8 .f32) : FVec Ideal S8192x128 .f32 :=
  shapeCast S8192x128 (broadcastInDim S1x8192x2x64 ![0, 1, 2, 3] bcast_S1x8192x1x64_S1x8192x2x64_0_1_2_3 (shapeCast S1x8192x1x64 (concatenate S8192x64 1 [⟨S8192x8, (Host.negf N : FVec Ideal S8192x8 .f32)⟩, ⟨S8192x56, (broadcastInDim S8192x56 ![] bcast_S_S8192x56 (constant S_ .f32 0x00000000#32) : FVec Ideal S8192x56 .f32)⟩] concatenates_S8192x8_S8192x56_S8192x64_d1) shapeCasts_S8192x64_S1x8192x1x64)) shapeCasts_S1x8192x2x64_S8192x128

/-- The kernel's table of sines, on the next eight lanes. -/
def tabR (N : FVec Ideal S8192x8 .f32) : FVec Ideal S8192x128 .f32 :=
  shapeCast S8192x128 (broadcastInDim S1x8192x2x64 ![0, 1, 2, 3] bcast_S1x8192x1x64_S1x8192x2x64_0_1_2_3 (shapeCast S1x8192x1x64 (concatenate S8192x64 1 [⟨S8192x8, (broadcastInDim S8192x8 ![] bcast_S_S8192x8 (constant S_ .f32 0x00000000#32) : FVec Ideal S8192x8 .f32)⟩, ⟨S8192x8, N⟩, ⟨S8192x48, (broadcastInDim S8192x48 ![] bcast_S_S8192x48 (constant S_ .f32 0x00000000#32) : FVec Ideal S8192x48 .f32)⟩] concatenates_S8192x8_S8192x8_S8192x48_S8192x64_d1) shapeCasts_S8192x64_S1x8192x1x64)) shapeCasts_S1x8192x2x64_S8192x128

theorem c_at (C : FVec Ideal S8192x8 .f32) (s : Fin 8192) (l : Fin 128) :
    tabC C (ix2 s l) = if h : l.val % 64 < 8 then C (ix2 s ⟨l.val % 64, h⟩)
      else if h' : l.val % 64 < 16 then C (ix2 s ⟨l.val % 64 - 8, by omega⟩) else (1 : EReal) := by
  pointwise [tabC]
  simp only [show l.val % 64 - 8 < 8 ↔ l.val % 64 < 16 by omega]

theorem l_at (N : FVec Ideal S8192x8 .f32) (s : Fin 8192) (l : Fin 128) :
    tabL N (ix2 s l) = if h : l.val % 64 < 8 then - N (ix2 s ⟨l.val % 64, h⟩) else (0 : EReal) := by
  pointwise [tabL]

theorem r_at (N : FVec Ideal S8192x8 .f32) (s : Fin 8192) (l : Fin 128) :
    tabR N (ix2 s l) = if h : l.val % 64 < 8 then (0 : EReal)
      else if h' : l.val % 64 < 16 then N (ix2 s ⟨l.val % 64 - 8, by omega⟩) else (0 : EReal) := by
  pointwise [tabR]
  simp only [show l.val % 64 - 8 < 8 ↔ l.val % 64 < 16 by omega]

theorem chunk_at (v c s1 s2 : FVec Ideal S512x128 .f32) (r : Fin 512) (l : Fin 128) (C S : Fin 8 → EReal)
    (hc : c (ix2 r l) = if h : l.val % 64 < 8 then C ⟨l.val % 64, h⟩
      else if h' : l.val % 64 < 16 then C ⟨l.val % 64 - 8, by omega⟩ else (1 : EReal))
    (h1 : s1 (ix2 r l) = if h : l.val % 64 < 8 then - S ⟨l.val % 64, h⟩ else (0 : EReal))
    (h2 : s2 (ix2 r l) = if h : l.val % 64 < 8 then (0 : EReal)
      else if h' : l.val % 64 < 16 then S ⟨l.val % 64 - 8, by omega⟩ else (0 : EReal)) :
    addf (addf (mulf v c) (mulf (dynamicRotate 1 120#32 none v rotates_S512x128_d1) s1))
      (mulf (dynamicRotate 1 8#32 none v rotates_S512x128_d1) s2) (ix2 r l)
      = turn (fun e => v (ix2 r ⟨l.val / 64 * 64 + e.val, by omega⟩)) C S ⟨l.val % 64, by omega⟩ := by
  pointwise
  rw [hc, h1, h2]
  unfold turn
  by_cases a1 : l.val % 64 < 8
  · have e1 : (⟨(l.val + 128 - 120) % 128, by omega⟩ : Fin 128) = ⟨l.val / 64 * 64 + (l.val % 64 + 8), by omega⟩ := Fin.ext (by dsimp only; omega)
    have e0 : (⟨l.val / 64 * 64 + l.val % 64, by omega⟩ : Fin 128) = l := Fin.ext (by dsimp only; omega)
    simp only [a1, dif_pos, e1, e0, mul_zero, add_zero, sub_eq_add_neg, mul_neg]
  · by_cases a2 : l.val % 64 < 16
    · have e1 : (⟨(l.val + 128 - 8) % 128, by omega⟩ : Fin 128) = ⟨l.val / 64 * 64 + (l.val % 64 - 8), by omega⟩ := Fin.ext (by dsimp only; omega)
      have e0 : (⟨l.val / 64 * 64 + l.val % 64, by omega⟩ : Fin 128) = l := Fin.ext (by dsimp only; omega)
      simp only [a1, a2, dif_pos, dif_neg, not_false_eq_true, e1, e0, mul_zero, add_zero]
    · have e0 : (⟨l.val / 64 * 64 + l.val % 64, by omega⟩ : Fin 128) = l := Fin.ext (by dsimp only; omega)
      simp only [a1, a2, dif_neg, not_false_eq_true, e0, mul_zero, add_zero, mul_one]

end Cert.ProjIdeal.Val

end
-- ==== Proof.ProjEntry.lean ====
module

public import proofs.«01_k».proof.Proof.Gen.ProjIdeal.Frame
public import proofs.«01_k».proof.Proof.ProjTab
public import Idealize.ShloMosaic.Lib.StableHlo.RunClose

/-! The kernel's three tables as its region finds them: the reference's cosines and sines. -/

@[expose] public section

set_option maxRecDepth 16384

noncomputable section

namespace Cert.ProjIdeal.Val

open Cert.ProjIdeal Cert.ProjIdeal.Gen Idealize.ShloMosaic Idealize.ShloMosaic.TcCoe Idealize.SL.Sem
open Idealize.ShloMosaic.Pipeline (Dat)
open Idealize.ShloMosaic.StableHlo
open Cert.ProjRefIdeal.Val (refZ refC refN rope8 rope2 refQA refKVA refQB refKVB)

variable (m : (ℓ : Loc nD τ sig) → Buf (Elt Ideal) ℓ)

variable {F : FTy → Type} [FloatOps F]

/-- The join of two tables of eight lanes and one of forty-eight. -/
def fnC (a : (⟨S8192x8, .f32⟩ : BufTy).Contents (Elt F)) (b : (⟨S8192x8, .f32⟩ : BufTy).Contents (Elt F)) (d : (⟨S8192x48, .f32⟩ : BufTy).Contents (Elt F)) : (⟨S8192x64, .f32⟩ : BufTy).Contents (Elt F) :=
  concatenate S8192x64 1 [⟨S8192x8, a⟩, ⟨S8192x8, b⟩, ⟨S8192x48, d⟩] concatenates_S8192x8_S8192x8_S8192x48_S8192x64_d1

/-- The join of a table of eight lanes and one of fifty-six. -/
def fnL (a : (⟨S8192x8, .f32⟩ : BufTy).Contents (Elt F)) (b : (⟨S8192x56, .f32⟩ : BufTy).Contents (Elt F)) : (⟨S8192x64, .f32⟩ : BufTy).Contents (Elt F) :=
  concatenate S8192x64 1 [⟨S8192x8, a⟩, ⟨S8192x56, b⟩] concatenates_S8192x8_S8192x56_S8192x64_d1

/-- The host operations up to the cosines and sines. -/
def headOps : List (HloOp τ sig (Elt F)) :=
  [StableHlo.reshape main_arg2 main_v0 (rfl : (.f32 : EltTy) = .f32) shapeCasts_S1x1024x2304_S1024x2304,
    StableHlo.unary main_v0 main_v1 ((truncf .bf16 · bitsLt_bf16_f32) : (⟨S1024x2304, .f32⟩ : BufTy).Contents (Elt F) → (⟨S1024x2304, .bf16⟩ : BufTy).Contents (Elt F)),
    StableHlo.reshape main_arg1 main_v2 (rfl : (.f32 : EltTy) = .f32) shapeCasts_S1x1024_S1024,
    StableHlo.unary main_v2 main_v3 (broadcastInDim S1x1024 ![1] bcast_S1024_S1x1024_1 : (⟨S1024, .f32⟩ : BufTy).Contents (Elt F) → (⟨S1x1024, .f32⟩ : BufTy).Contents (Elt F)),
    StableHlo.reshape main_arg0 main_v4 (rfl : (.f32 : EltTy) = .f32) shapeCasts_S2x8192x1024_S16384x1024,
    StableHlo.nullary main_v5 (iotaInDim S8192 32 0),
    StableHlo.nullary main_v6 (sitofp .f32 (iotaInDim S8 32 0)),
    StableHlo.nullary main_cst (constant S_ .f32 0x40000000#32),
    StableHlo.unary main_cst main_v7 (broadcastInDim S8 ![] bcast_S_S8 : (⟨S_, .f32⟩ : BufTy).Contents (Elt F) → (⟨S8, .f32⟩ : BufTy).Contents (Elt F)),
    StableHlo.binary main_v7 main_v6 main_v8 (mulf : (⟨S8, .f32⟩ : BufTy).Contents (Elt F) → (⟨S8, .f32⟩ : BufTy).Contents (Elt F) → (⟨S8, .f32⟩ : BufTy).Contents (Elt F)),
    StableHlo.nullary main_cst_0 (constant S_ .f32 0x00000000#32),
    StableHlo.unary main_cst_0 main_v9 (broadcastInDim S8 ![] bcast_S_S8 : (⟨S_, .f32⟩ : BufTy).Contents (Elt F) → (⟨S8, .f32⟩ : BufTy).Contents (Elt F)),
    StableHlo.binary main_v9 main_v8 main_v10 (addf : (⟨S8, .f32⟩ : BufTy).Contents (Elt F) → (⟨S8, .f32⟩ : BufTy).Contents (Elt F) → (⟨S8, .f32⟩ : BufTy).Contents (Elt F)),
    StableHlo.unary main_v10 main_v11 (Host.negf : (⟨S8, .f32⟩ : BufTy).Contents (Elt F) → (⟨S8, .f32⟩ : BufTy).Contents (Elt F)),
    StableHlo.nullary main_cst_1 (constant S_ .f32 0x41800000#32),
    StableHlo.unary main_cst_1 main_v12 (broadcastInDim S8 ![] bcast_S_S8 : (⟨S_, .f32⟩ : BufTy).Contents (Elt F) → (⟨S8, .f32⟩ : BufTy).Contents (Elt F)),
    StableHlo.binary main_v11 main_v12 main_v13 (Host.divf : (⟨S8, .f32⟩ : BufTy).Contents (Elt F) → (⟨S8, .f32⟩ : BufTy).Contents (Elt F) → (⟨S8, .f32⟩ : BufTy).Contents (Elt F)),
    StableHlo.nullary main_cst_2 (constant S_ .f32 0x48F42400#32),
    StableHlo.unary main_cst_2 main_v14 (broadcastInDim S8 ![] bcast_S_S8 : (⟨S_, .f32⟩ : BufTy).Contents (Elt F) → (⟨S8, .f32⟩ : BufTy).Contents (Elt F)),
    StableHlo.binary main_v14 main_v13 main_v15 (Host.powf : (⟨S8, .f32⟩ : BufTy).Contents (Elt F) → (⟨S8, .f32⟩ : BufTy).Contents (Elt F) → (⟨S8, .f32⟩ : BufTy).Contents (Elt F)),
    StableHlo.unary main_v5 main_v16 (sitofp .f32 : (⟨S8192, .i32⟩ : BufTy).Contents (Elt F) → (⟨S8192, .f32⟩ : BufTy).Contents (Elt F)),
    StableHlo.unary main_v16 main_v17 (broadcastInDim S8192x1 ![0] bcast_S8192_S8192x1_0 : (⟨S8192, .f32⟩ : BufTy).Contents (Elt F) → (⟨S8192x1, .f32⟩ : BufTy).Contents (Elt F)),
    StableHlo.unary main_v15 main_v18 (broadcastInDim S1x8 ![1] bcast_S8_S1x8_1 : (⟨S8, .f32⟩ : BufTy).Contents (Elt F) → (⟨S1x8, .f32⟩ : BufTy).Contents (Elt F)),
    StableHlo.unary main_v17 main_v19 (broadcastInDim S8192x8 ![0, 1] bcast_S8192x1_S8192x8_0_1 : (⟨S8192x1, .f32⟩ : BufTy).Contents (Elt F) → (⟨S8192x8, .f32⟩ : BufTy).Contents (Elt F)),
    StableHlo.unary main_v18 main_v20 (broadcastInDim S8192x8 ![0, 1] bcast_S1x8_S8192x8_0_1 : (⟨S1x8, .f32⟩ : BufTy).Contents (Elt F) → (⟨S8192x8, .f32⟩ : BufTy).Contents (Elt F)),
    StableHlo.binary main_v19 main_v20 main_v21 (mulf : (⟨S8192x8, .f32⟩ : BufTy).Contents (Elt F) → (⟨S8192x8, .f32⟩ : BufTy).Contents (Elt F) → (⟨S8192x8, .f32⟩ : BufTy).Contents (Elt F)),
    StableHlo.unary main_v21 main_v22 (Host.cos : (⟨S8192x8, .f32⟩ : BufTy).Contents (Elt F) → (⟨S8192x8, .f32⟩ : BufTy).Contents (Elt F)),
    StableHlo.unary main_v21 main_v23 (Host.sin : (⟨S8192x8, .f32⟩ : BufTy).Contents (Elt F) → (⟨S8192x8, .f32⟩ : BufTy).Contents (Elt F))]

/-- The host operations that build the tables of them. -/
def tailOps : List (HloOp τ sig (Elt F)) :=
  [StableHlo.nullary main_cst_3 (constant S_ .f32 0x3F800000#32),
    StableHlo.unary main_cst_3 main_v24 (broadcastInDim S8192x48 ![] bcast_S_S8192x48 : (⟨S_, .f32⟩ : BufTy).Contents (Elt F) → (⟨S8192x48, .f32⟩ : BufTy).Contents (Elt F)),
    StableHlo.nary ![main_v22, main_v22, main_v24] main_v25 (fun u => fnC (u 0) (u 1) (u 2)),
    StableHlo.unary main_v23 main_v26 (Host.negf : (⟨S8192x8, .f32⟩ : BufTy).Contents (Elt F) → (⟨S8192x8, .f32⟩ : BufTy).Contents (Elt F)),
    StableHlo.nullary main_cst_4 (constant S_ .f32 0x00000000#32),
    StableHlo.unary main_cst_4 main_v27 (broadcastInDim S8192x56 ![] bcast_S_S8192x56 : (⟨S_, .f32⟩ : BufTy).Contents (Elt F) → (⟨S8192x56, .f32⟩ : BufTy).Contents (Elt F)),
    StableHlo.binary main_v26 main_v27 main_v28 fnL,
    StableHlo.nullary main_cst_5 (constant S_ .f32 0x00000000#32),
    StableHlo.unary main_cst_5 main_v29 (broadcastInDim S8192x8 ![] bcast_S_S8192x8 : (⟨S_, .f32⟩ : BufTy).Contents (Elt F) → (⟨S8192x8, .f32⟩ : BufTy).Contents (Elt F)),
    StableHlo.nullary main_cst_6 (constant S_ .f32 0x00000000#32),
    StableHlo.unary main_cst_6 main_v30 (broadcastInDim S8192x48 ![] bcast_S_S8192x48 : (⟨S_, .f32⟩ : BufTy).Contents (Elt F) → (⟨S8192x48, .f32⟩ : BufTy).Contents (Elt F)),
    StableHlo.nary ![main_v29, main_v23, main_v30] main_v31 (fun u => fnC (u 0) (u 1) (u 2)),
    StableHlo.reshape main_v25 main_v32 (rfl : (.f32 : EltTy) = .f32) shapeCasts_S8192x64_S1x8192x1x64,
    StableHlo.unary main_v32 main_v33 (broadcastInDim S1x8192x2x64 ![0, 1, 2, 3] bcast_S1x8192x1x64_S1x8192x2x64_0_1_2_3 : (⟨S1x8192x1x64, .f32⟩ : BufTy).Contents (Elt F) → (⟨S1x8192x2x64, .f32⟩ : BufTy).Contents (Elt F)),
    StableHlo.reshape main_v33 main_v34 (rfl : (.f32 : EltTy) = .f32) shapeCasts_S1x8192x2x64_S8192x128,
    StableHlo.reshape main_v28 main_v35 (rfl : (.f32 : EltTy) = .f32) shapeCasts_S8192x64_S1x8192x1x64,
    StableHlo.unary main_v35 main_v36 (broadcastInDim S1x8192x2x64 ![0, 1, 2, 3] bcast_S1x8192x1x64_S1x8192x2x64_0_1_2_3 : (⟨S1x8192x1x64, .f32⟩ : BufTy).Contents (Elt F) → (⟨S1x8192x2x64, .f32⟩ : BufTy).Contents (Elt F)),
    StableHlo.reshape main_v36 main_v37 (rfl : (.f32 : EltTy) = .f32) shapeCasts_S1x8192x2x64_S8192x128,
    StableHlo.reshape main_v31 main_v38 (rfl : (.f32 : EltTy) = .f32) shapeCasts_S8192x64_S1x8192x1x64,
    StableHlo.unary main_v38 main_v39 (broadcastInDim S1x8192x2x64 ![0, 1, 2, 3] bcast_S1x8192x1x64_S1x8192x2x64_0_1_2_3 : (⟨S1x8192x1x64, .f32⟩ : BufTy).Contents (Elt F) → (⟨S1x8192x2x64, .f32⟩ : BufTy).Contents (Elt F)),
    StableHlo.reshape main_v39 main_v40 (rfl : (.f32 : EltTy) = .f32) shapeCasts_S1x8192x2x64_S8192x128]

theorem ops_split : (hostOps0 (F := F) : List (HloOp τ sig (Elt F))) = headOps ++ tailOps := rfl

theorem head_cos (W : Valuation τ sig (Elt Ideal)) : (StableHlo.after (headOps (F := Ideal)) W (Proc.devRef .tc main_v22) : FVec Ideal S8192x8 .f32) = refC := by
  unfold headOps
  after_results_simp <;> rfl

theorem head_sin (W : Valuation τ sig (Elt Ideal)) : (StableHlo.after (headOps (F := Ideal)) W (Proc.devRef .tc main_v23) : FVec Ideal S8192x8 .f32) = refN := by
  unfold headOps
  after_results_simp <;> rfl

theorem tail_C (W : Valuation τ sig (Elt Ideal)) : (StableHlo.after (tailOps (F := Ideal)) W (Proc.devRef .tc main_v34) : FVec Ideal S8192x128 .f32) = tabC (W (Proc.devRef .tc main_v22)) := by
  unfold tailOps
  after_results_entrywise (rounds := 1) []

theorem tail_L (W : Valuation τ sig (Elt Ideal)) : (StableHlo.after (tailOps (F := Ideal)) W (Proc.devRef .tc main_v37) : FVec Ideal S8192x128 .f32) = tabL (W (Proc.devRef .tc main_v23)) := by
  unfold tailOps
  after_results_entrywise (rounds := 1) []

theorem tail_R (W : Valuation τ sig (Elt Ideal)) : (StableHlo.after (tailOps (F := Ideal)) W (Proc.devRef .tc main_v40) : FVec Ideal S8192x128 .f32) = tabR (W (Proc.devRef .tc main_v23)) := by
  unfold tailOps
  after_results_entrywise (rounds := 1) []

theorem tabC_eq (c : Dev nD) : (V m c main_v34 : FVec Ideal S8192x128 .f32) = tabC refC := by
  show StableHlo.after hostOps0 _ _ = _
  rw [ops_split, after_append, tail_C, head_cos]

theorem tabL_eq (c : Dev nD) : (V m c main_v37 : FVec Ideal S8192x128 .f32) = tabL refN := by
  show StableHlo.after hostOps0 _ _ = _
  rw [ops_split, after_append, tail_L, head_sin]

theorem tabR_eq (c : Dev nD) : (V m c main_v40 : FVec Ideal S8192x128 .f32) = tabR refN := by
  show StableHlo.after hostOps0 _ _ = _
  rw [ops_split, after_append, tail_R, head_sin]

end Cert.ProjIdeal.Val

end
-- ==== Proof.ProjRows.lean ====
module

public import proofs.«01_k».proof.Proof.ProjZ
public import proofs.«01_k».proof.Proof.ProjEntry

/-! The rows of the four result arrays, on both sides, as turned or plain lanes of the product. -/

@[expose] public section

set_option maxRecDepth 16384

noncomputable section

namespace Cert.ProjIdeal.Val

open Cert.ProjIdeal Cert.ProjIdeal.Gen Idealize.ShloMosaic Idealize.ShloMosaic.TcCoe Idealize.SL.Sem
open Idealize.ShloMosaic.Pipeline (Dat)
open Cert.ProjRefIdeal.Val (refZ refC refN rope8 rope2 refQA refKVA refQB refKVB)

variable (m : (ℓ : Loc nD τ sig) → Buf (Elt Ideal) ℓ)

/-- The lane `o + l` of the product's row, turned by the row's position. -/
def lane (Z : FVec Ideal Cert.ProjRefIdeal.S2x8192x2304 .f32) (b : Fin 2) (s : Fin 8192) (o l : ℕ) (ho : o + l / 64 * 64 + 64 ≤ 2304) : EReal :=
  turn (fun e => Z (ix3 b s ⟨o + (l / 64 * 64 + e.val), by omega⟩)) (fun k => refC (ix2 s k)) (fun k => refN (ix2 s k)) ⟨l % 64, by omega⟩

theorem bc_at (c : Dev nD) (t : Fin cfg0.N) (r : Fin 512) (l : Fin 128) (s : Fin 8192) (h : s.val = t.val % 16 * 512 + r.val) :
    k0_pay30 (F := Ideal) (iblk m c 0 t) (iblk m c 1 t) (iblk m c 2 t) (iblk m c 3 t) (iblk m c 4 t) (iblk m c 5 t) (ix2 r l)
      = tabC refC (ix2 s l) := by
  rw [← tabC_eq m c]
  pointwise [k0_pay30, k0_pay4]
  blk_point [iblk, idx t]

theorem bl_at (c : Dev nD) (t : Fin cfg0.N) (r : Fin 512) (l : Fin 128) (s : Fin 8192) (h : s.val = t.val % 16 * 512 + r.val) :
    k0_pay31 (F := Ideal) (iblk m c 0 t) (iblk m c 1 t) (iblk m c 2 t) (iblk m c 3 t) (iblk m c 4 t) (iblk m c 5 t) (ix2 r l)
      = tabL refN (ix2 s l) := by
  rw [← tabL_eq m c]
  pointwise [k0_pay31, k0_pay5]
  blk_point [iblk, idx t]

theorem br_at (c : Dev nD) (t : Fin cfg0.N) (r : Fin 512) (l : Fin 128) (s : Fin 8192) (h : s.val = t.val % 16 * 512 + r.val) :
    k0_pay32 (F := Ideal) (iblk m c 0 t) (iblk m c 1 t) (iblk m c 2 t) (iblk m c 3 t) (iblk m c 4 t) (iblk m c 5 t) (ix2 r l)
      = tabR refN (ix2 s l) := by
  rw [← tabR_eq m c]
  pointwise [k0_pay32, k0_pay6]
  blk_point [iblk, idx t]

/-- A turned chunk of 128 lanes of a block of rows. -/
theorem turned_at (z : FVec Ideal S512x2304 .f32) (c s1 s2 : FVec Ideal S512x128 .f32) (Z : FVec Ideal Cert.ProjRefIdeal.S2x8192x2304 .f32)
    (r : Fin 512) (l : Fin 128) (b : Fin 2) (s : Fin 8192) (hz : ∀ n, z (ix2 r n) = Z (ix3 b s n))
    (hc : c (ix2 r l) = tabC refC (ix2 s l)) (h1 : s1 (ix2 r l) = tabL refN (ix2 s l)) (h2 : s2 (ix2 r l) = tabR refN (ix2 s l))
    (o : ℕ) (ho : o + 128 ≤ 2304) (hs : S512x2304.Slices ![0, o] S512x128)
    (p q : ℕ) (hp : o + l.val = p + q) (hq : q % 64 = l.val % 64) (hl : p + q / 64 * 64 + 64 ≤ 2304) :
    addf (addf (mulf (extractStridedSlice S512x128 ![0, o] z hs) c) (mulf (dynamicRotate 1 120#32 none (extractStridedSlice S512x128 ![0, o] z hs) rotates_S512x128_d1) s1))
      (mulf (dynamicRotate 1 8#32 none (extractStridedSlice S512x128 ![0, o] z hs) rotates_S512x128_d1) s2) (ix2 r l)
      = lane Z b s p q hl := by
  rw [chunk_at _ _ _ _ r l (fun k => refC (ix2 s k)) (fun k => refN (ix2 s k))
    (hc.trans (c_at refC s l)) (h1.trans (l_at refN s l)) (h2.trans (r_at refN s l))]
  unfold lane
  have e2 : (⟨l.val % 64, by omega⟩ : Fin 64) = ⟨q % 64, by omega⟩ := Fin.ext hq.symm
  rw [e2]
  have e3 : (fun e : Fin 64 => (extractStridedSlice S512x128 ![0, o] z hs : FVec Ideal S512x128 .f32) (ix2 r ⟨l.val / 64 * 64 + e.val, by omega⟩))
      = fun e : Fin 64 => Z (ix3 b s ⟨p + (q / 64 * 64 + e.val), by omega⟩) := by
    funext e
    have e4 : (⟨o + (l.val / 64 * 64 + e.val), by omega⟩ : Fin 2304) = ⟨p + (q / 64 * 64 + e.val), by omega⟩ := Fin.ext (by dsimp only; omega)
    rw [← e4, ← hz]
    pointwise
  rw [e3]

/-- A plain chunk of 128 lanes of a block of rows. -/
theorem plain_at (z : FVec Ideal S512x2304 .f32) (Z : FVec Ideal Cert.ProjRefIdeal.S2x8192x2304 .f32)
    (r : Fin 512) (l : Fin 128) (b : Fin 2) (s : Fin 8192) (hz : ∀ n, z (ix2 r n) = Z (ix3 b s n))
    (o : ℕ) (ho : o + 128 ≤ 2304) (hs : S512x2304.Slices ![0, o] S512x128) (n : Fin 2304) (hn : o + l.val = n.val) :
    (extractStridedSlice S512x128 ![0, o] z hs : FVec Ideal S512x128 .f32) (ix2 r l) = Z (ix3 b s n) := by
  have e4 : (⟨o + l.val, by omega⟩ : Fin 2304) = n := Fin.ext hn
  rw [← e4, ← hz]
  pointwise

theorem qa_at (Z : FVec Ideal Cert.ProjRefIdeal.S2x8192x2304 .f32) (r : Fin 16384) (l : Fin 512) :
    refQA Z refC refN (ix2 r l) = lane Z ⟨r.val / 8192, by omega⟩ ⟨r.val % 8192, by omega⟩ 0 l.val (by omega) := by
  pointwise [refQA]
  rw [rope8_at]
  pointwise [lane]

theorem qb_at (Z : FVec Ideal Cert.ProjRefIdeal.S2x8192x2304 .f32) (r : Fin 16384) (l : Fin 512) :
    refQB Z refC refN (ix2 r l) = lane Z ⟨r.val / 8192, by omega⟩ ⟨r.val % 8192, by omega⟩ 768 l.val (by omega) := by
  pointwise [refQB]
  rw [rope8_at]
  pointwise [lane]

theorem kva_at (Z : FVec Ideal Cert.ProjRefIdeal.S2x8192x2304 .f32) (r : Fin 16384) (l : Fin 256) :
    refKVA Z refC refN (ix2 r l) = if h : l.val < 128 then lane Z ⟨r.val / 8192, by omega⟩ ⟨r.val % 8192, by omega⟩ 512 l.val (by omega) else Z (ix3 ⟨r.val / 8192, by omega⟩ ⟨r.val % 8192, by omega⟩ ⟨512 + l.val, by omega⟩) := by
  pointwise [refKVA]
  by_cases hl : l.val < 128
  · simp only [hl, dif_pos]
    rw [rope2_at]
    pointwise [lane]
  · simp only [hl, dif_neg, not_false_eq_true]
    congr 2
    exact Fin.ext (by dsimp only; omega)

theorem kvb_at (Z : FVec Ideal Cert.ProjRefIdeal.S2x8192x2304 .f32) (r : Fin 16384) (l : Fin 1024) :
    refKVB Z refC refN (ix2 r l) = if h : l.val < 512 then lane Z ⟨r.val / 8192, by omega⟩ ⟨r.val % 8192, by omega⟩ 1280 l.val (by omega) else Z (ix3 ⟨r.val / 8192, by omega⟩ ⟨r.val % 8192, by omega⟩ ⟨1280 + l.val, by omega⟩) := by
  pointwise [refKVB]
  by_cases hl : l.val < 512
  · simp only [hl, dif_pos]
    rw [rope8_at]
    pointwise [lane]
  · simp only [hl, dif_neg, not_false_eq_true]
    congr 2
    exact Fin.ext (by dsimp only; omega)

end Cert.ProjIdeal.Val

end
-- ==== Proof.ProjValue.lean ====
module

public import proofs.«01_k».proof.Proof.ProjRows

/-! The first projection's four result arrays after the run: the reference's. -/

@[expose] public section

set_option maxRecDepth 16384

noncomputable section

namespace Cert.ProjIdeal.Val

open Cert.ProjIdeal Cert.ProjIdeal.Gen Idealize.ShloMosaic Idealize.ShloMosaic.TcCoe Idealize.SL.Sem
open Idealize.ShloMosaic.Pipeline (Dat)
open Cert.ProjRefIdeal.Val (refZ refC refN rope8 rope2 refQA refKVA refQB refKVB)

variable (m : (ℓ : Loc nD τ sig) → Buf (Elt Ideal) ℓ)

theorem o6_at (c : Dev nD) (t : Fin cfg0.N) (y : S512x512.Idx) (j : S16384x512.Idx)
    (hj0 : (j 0 : ℕ) = t.val * 512 + y 0) (hj1 : (j 1 : ℕ) = y 1) :
    out0_6 (F := Ideal) (iblk m c 0 t) (iblk m c 1 t) (iblk m c 2 t) (iblk m c 3 t) (iblk m c 4 t) (iblk m c 5 t) y = refQA (RZ m c) refC refN j := by
  idx_vars j
  have hj := j0.isLt
  rw [qa_at]
  unfold out0_6
  canon_tiles x h
  · idx_vars x
    have hx := x0.isLt
    have hb : j0.val / 8192 * 8192 + j0.val % 8192 = t.val * 512 + x0.val := by omega
    have hs : j0.val % 8192 = t.val % 16 * 512 + x0.val := by omega
    have hz : ∀ n, (k0_pay29 (F := Ideal) (iblk m c 0 t) (iblk m c 1 t) (iblk m c 2 t) (iblk m c 3 t) (iblk m c 4 t) (iblk m c 5 t)) (ix2 x0 n) = RZ m c (ix3 ⟨j0.val / 8192, by omega⟩ ⟨j0.val % 8192, by omega⟩ n) :=
      fun n => z_at m c t x0 n ⟨j0.val / 8192, by omega⟩ ⟨j0.val % 8192, by omega⟩ hb
    exact turned_at (k0_pay29 (F := Ideal) (iblk m c 0 t) (iblk m c 1 t) (iblk m c 2 t) (iblk m c 3 t) (iblk m c 4 t) (iblk m c 5 t)) (k0_pay30 (F := Ideal) (iblk m c 0 t) (iblk m c 1 t) (iblk m c 2 t) (iblk m c 3 t) (iblk m c 4 t) (iblk m c 5 t)) (k0_pay31 (F := Ideal) (iblk m c 0 t) (iblk m c 1 t) (iblk m c 2 t) (iblk m c 3 t) (iblk m c 4 t) (iblk m c 5 t)) (k0_pay32 (F := Ideal) (iblk m c 0 t) (iblk m c 1 t) (iblk m c 2 t) (iblk m c 3 t) (iblk m c 4 t) (iblk m c 5 t)) (RZ m c) x0 x1 _ _ hz (bc_at m c t x0 x1 ⟨j0.val % 8192, by omega⟩ hs) (bl_at m c t x0 x1 ⟨j0.val % 8192, by omega⟩ hs) (br_at m c t x0 x1 ⟨j0.val % 8192, by omega⟩ hs) 384 (by omega) slices_S512x2304_o0_384_S512x128 0 j1.val (by omega) (by omega) _
  · idx_vars x
    have hx := x0.isLt
    have hb : j0.val / 8192 * 8192 + j0.val % 8192 = t.val * 512 + x0.val := by omega
    have hs : j0.val % 8192 = t.val % 16 * 512 + x0.val := by omega
    have hz : ∀ n, (k0_pay29 (F := Ideal) (iblk m c 0 t) (iblk m c 1 t) (iblk m c 2 t) (iblk m c 3 t) (iblk m c 4 t) (iblk m c 5 t)) (ix2 x0 n) = RZ m c (ix3 ⟨j0.val / 8192, by omega⟩ ⟨j0.val % 8192, by omega⟩ n) :=
      fun n => z_at m c t x0 n ⟨j0.val / 8192, by omega⟩ ⟨j0.val % 8192, by omega⟩ hb
    exact turned_at (k0_pay29 (F := Ideal) (iblk m c 0 t) (iblk m c 1 t) (iblk m c 2 t) (iblk m c 3 t) (iblk m c 4 t) (iblk m c 5 t)) (k0_pay30 (F := Ideal) (iblk m c 0 t) (iblk m c 1 t) (iblk m c 2 t) (iblk m c 3 t) (iblk m c 4 t) (iblk m c 5 t)) (k0_pay31 (F := Ideal) (iblk m c 0 t) (iblk m c 1 t) (iblk m c 2 t) (iblk m c 3 t) (iblk m c 4 t) (iblk m c 5 t)) (k0_pay32 (F := Ideal) (iblk m c 0 t) (iblk m c 1 t) (iblk m c 2 t) (iblk m c 3 t) (iblk m c 4 t) (iblk m c 5 t)) (RZ m c) x0 x1 _ _ hz (bc_at m c t x0 x1 ⟨j0.val % 8192, by omega⟩ hs) (bl_at m c t x0 x1 ⟨j0.val % 8192, by omega⟩ hs) (br_at m c t x0 x1 ⟨j0.val % 8192, by omega⟩ hs) 256 (by omega) slices_S512x2304_o0_256_S512x128 0 j1.val (by omega) (by omega) _
  · idx_vars x
    have hx := x0.isLt
    have hb : j0.val / 8192 * 8192 + j0.val % 8192 = t.val * 512 + x0.val := by omega
    have hs : j0.val % 8192 = t.val % 16 * 512 + x0.val := by omega
    have hz : ∀ n, (k0_pay29 (F := Ideal) (iblk m c 0 t) (iblk m c 1 t) (iblk m c 2 t) (iblk m c 3 t) (iblk m c 4 t) (iblk m c 5 t)) (ix2 x0 n) = RZ m c (ix3 ⟨j0.val / 8192, by omega⟩ ⟨j0.val % 8192, by omega⟩ n) :=
      fun n => z_at m c t x0 n ⟨j0.val / 8192, by omega⟩ ⟨j0.val % 8192, by omega⟩ hb
    exact turned_at (k0_pay29 (F := Ideal) (iblk m c 0 t) (iblk m c 1 t) (iblk m c 2 t) (iblk m c 3 t) (iblk m c 4 t) (iblk m c 5 t)) (k0_pay30 (F := Ideal) (iblk m c 0 t) (iblk m c 1 t) (iblk m c 2 t) (iblk m c 3 t) (iblk m c 4 t) (iblk m c 5 t)) (k0_pay31 (F := Ideal) (iblk m c 0 t) (iblk m c 1 t) (iblk m c 2 t) (iblk m c 3 t) (iblk m c 4 t) (iblk m c 5 t)) (k0_pay32 (F := Ideal) (iblk m c 0 t) (iblk m c 1 t) (iblk m c 2 t) (iblk m c 3 t) (iblk m c 4 t) (iblk m c 5 t)) (RZ m c) x0 x1 _ _ hz (bc_at m c t x0 x1 ⟨j0.val % 8192, by omega⟩ hs) (bl_at m c t x0 x1 ⟨j0.val % 8192, by omega⟩ hs) (br_at m c t x0 x1 ⟨j0.val % 8192, by omega⟩ hs) 128 (by omega) slices_S512x2304_o0_128_S512x128 0 j1.val (by omega) (by omega) _
  · idx_vars x
    have hx := x0.isLt
    have hb : j0.val / 8192 * 8192 + j0.val % 8192 = t.val * 512 + x0.val := by omega
    have hs : j0.val % 8192 = t.val % 16 * 512 + x0.val := by omega
    have hz : ∀ n, (k0_pay29 (F := Ideal) (iblk m c 0 t) (iblk m c 1 t) (iblk m c 2 t) (iblk m c 3 t) (iblk m c 4 t) (iblk m c 5 t)) (ix2 x0 n) = RZ m c (ix3 ⟨j0.val / 8192, by omega⟩ ⟨j0.val % 8192, by omega⟩ n) :=
      fun n => z_at m c t x0 n ⟨j0.val / 8192, by omega⟩ ⟨j0.val % 8192, by omega⟩ hb
    exact turned_at (k0_pay29 (F := Ideal) (iblk m c 0 t) (iblk m c 1 t) (iblk m c 2 t) (iblk m c 3 t) (iblk m c 4 t) (iblk m c 5 t)) (k0_pay30 (F := Ideal) (iblk m c 0 t) (iblk m c 1 t) (iblk m c 2 t) (iblk m c 3 t) (iblk m c 4 t) (iblk m c 5 t)) (k0_pay31 (F := Ideal) (iblk m c 0 t) (iblk m c 1 t) (iblk m c 2 t) (iblk m c 3 t) (iblk m c 4 t) (iblk m c 5 t)) (k0_pay32 (F := Ideal) (iblk m c 0 t) (iblk m c 1 t) (iblk m c 2 t) (iblk m c 3 t) (iblk m c 4 t) (iblk m c 5 t)) (RZ m c) x0 x1 _ _ hz (bc_at m c t x0 x1 ⟨j0.val % 8192, by omega⟩ hs) (bl_at m c t x0 x1 ⟨j0.val % 8192, by omega⟩ hs) (br_at m c t x0 x1 ⟨j0.val % 8192, by omega⟩ hs) 0 (by omega) slices_S512x2304_o0_0_S512x128 0 j1.val (by omega) (by omega) _

theorem final6 (c : Dev nD) : (dats m 0 c).arrAt 6 (cfgs 0).N = refQA (RZ m c) refC refN := by
  refine (dats m 0 c).arrAt_eq_of_covers 6 _ (by decide +kernel) fun t _ y => ?_
  blk_simp
  rw [after0_6]
  exact o6_at m c t y _ (by blk_simp [idx t]) (by blk_simp [idx t])

theorem o7_at (c : Dev nD) (t : Fin cfg0.N) (y : S512x256.Idx) (j : S16384x256.Idx)
    (hj0 : (j 0 : ℕ) = t.val * 512 + y 0) (hj1 : (j 1 : ℕ) = y 1) :
    out0_7 (F := Ideal) (iblk m c 0 t) (iblk m c 1 t) (iblk m c 2 t) (iblk m c 3 t) (iblk m c 4 t) (iblk m c 5 t) y = refKVA (RZ m c) refC refN j := by
  idx_vars j
  have hj := j0.isLt
  rw [kva_at]
  unfold out0_7
  canon_tiles x h
  · idx_vars x
    have hx := x0.isLt
    have hb : j0.val / 8192 * 8192 + j0.val % 8192 = t.val * 512 + x0.val := by omega
    have hs : j0.val % 8192 = t.val % 16 * 512 + x0.val := by omega
    have hz : ∀ n, (k0_pay29 (F := Ideal) (iblk m c 0 t) (iblk m c 1 t) (iblk m c 2 t) (iblk m c 3 t) (iblk m c 4 t) (iblk m c 5 t)) (ix2 x0 n) = RZ m c (ix3 ⟨j0.val / 8192, by omega⟩ ⟨j0.val % 8192, by omega⟩ n) :=
      fun n => z_at m c t x0 n ⟨j0.val / 8192, by omega⟩ ⟨j0.val % 8192, by omega⟩ hb
    rw [dif_neg (by omega : ¬ j1.val < 128)]
    exact plain_at (k0_pay29 (F := Ideal) (iblk m c 0 t) (iblk m c 1 t) (iblk m c 2 t) (iblk m c 3 t) (iblk m c 4 t) (iblk m c 5 t)) (RZ m c) x0 x1 _ _ hz 640 (by omega) slices_S512x2304_o0_640_S512x128 _ (by dsimp only; omega)
  · idx_vars x
    have hx := x0.isLt
    have hb : j0.val / 8192 * 8192 + j0.val % 8192 = t.val * 512 + x0.val := by omega
    have hs : j0.val % 8192 = t.val % 16 * 512 + x0.val := by omega
    have hz : ∀ n, (k0_pay29 (F := Ideal) (iblk m c 0 t) (iblk m c 1 t) (iblk m c 2 t) (iblk m c 3 t) (iblk m c 4 t) (iblk m c 5 t)) (ix2 x0 n) = RZ m c (ix3 ⟨j0.val / 8192, by omega⟩ ⟨j0.val % 8192, by omega⟩ n) :=
      fun n => z_at m c t x0 n ⟨j0.val / 8192, by omega⟩ ⟨j0.val % 8192, by omega⟩ hb
    rw [dif_pos (by omega : j1.val < 128)]
    exact turned_at (k0_pay29 (F := Ideal) (iblk m c 0 t) (iblk m c 1 t) (iblk m c 2 t) (iblk m c 3 t) (iblk m c 4 t) (iblk m c 5 t)) (k0_pay30 (F := Ideal) (iblk m c 0 t) (iblk m c 1 t) (iblk m c 2 t) (iblk m c 3 t) (iblk m c 4 t) (iblk m c 5 t)) (k0_pay31 (F := Ideal) (iblk m c 0 t) (iblk m c 1 t) (iblk m c 2 t) (iblk m c 3 t) (iblk m c 4 t) (iblk m c 5 t)) (k0_pay32 (F := Ideal) (iblk m c 0 t) (iblk m c 1 t) (iblk m c 2 t) (iblk m c 3 t) (iblk m c 4 t) (iblk m c 5 t)) (RZ m c) x0 x1 _ _ hz (bc_at m c t x0 x1 ⟨j0.val % 8192, by omega⟩ hs) (bl_at m c t x0 x1 ⟨j0.val % 8192, by omega⟩ hs) (br_at m c t x0 x1 ⟨j0.val % 8192, by omega⟩ hs) 512 (by omega) slices_S512x2304_o0_512_S512x128 512 j1.val (by omega) (by omega) _

theorem final7 (c : Dev nD) : (dats m 0 c).arrAt 7 (cfgs 0).N = refKVA (RZ m c) refC refN := by
  refine (dats m 0 c).arrAt_eq_of_covers 7 _ (by decide +kernel) fun t _ y => ?_
  blk_simp
  rw [after0_7]
  exact o7_at m c t y _ (by blk_simp [idx t]) (by blk_simp [idx t])

theorem o8_at (c : Dev nD) (t : Fin cfg0.N) (y : S512x512.Idx) (j : S16384x512.Idx)
    (hj0 : (j 0 : ℕ) = t.val * 512 + y 0) (hj1 : (j 1 : ℕ) = y 1) :
    out0_8 (F := Ideal) (iblk m c 0 t) (iblk m c 1 t) (iblk m c 2 t) (iblk m c 3 t) (iblk m c 4 t) (iblk m c 5 t) y = refQB (RZ m c) refC refN j := by
  idx_vars j
  have hj := j0.isLt
  rw [qb_at]
  unfold out0_8
  canon_tiles x h
  · idx_vars x
    have hx := x0.isLt
    have hb : j0.val / 8192 * 8192 + j0.val % 8192 = t.val * 512 + x0.val := by omega
    have hs : j0.val % 8192 = t.val % 16 * 512 + x0.val := by omega
    have hz : ∀ n, (k0_pay29 (F := Ideal) (iblk m c 0 t) (iblk m c 1 t) (iblk m c 2 t) (iblk m c 3 t) (iblk m c 4 t) (iblk m c 5 t)) (ix2 x0 n) = RZ m c (ix3 ⟨j0.val / 8192, by omega⟩ ⟨j0.val % 8192, by omega⟩ n) :=
      fun n => z_at m c t x0 n ⟨j0.val / 8192, by omega⟩ ⟨j0.val % 8192, by omega⟩ hb
    exact turned_at (k0_pay29 (F := Ideal) (iblk m c 0 t) (iblk m c 1 t) (iblk m c 2 t) (iblk m c 3 t) (iblk m c 4 t) (iblk m c 5 t)) (k0_pay30 (F := Ideal) (iblk m c 0 t) (iblk m c 1 t) (iblk m c 2 t) (iblk m c 3 t) (iblk m c 4 t) (iblk m c 5 t)) (k0_pay31 (F := Ideal) (iblk m c 0 t) (iblk m c 1 t) (iblk m c 2 t) (iblk m c 3 t) (iblk m c 4 t) (iblk m c 5 t)) (k0_pay32 (F := Ideal) (iblk m c 0 t) (iblk m c 1 t) (iblk m c 2 t) (iblk m c 3 t) (iblk m c 4 t) (iblk m c 5 t)) (RZ m c) x0 x1 _ _ hz (bc_at m c t x0 x1 ⟨j0.val % 8192, by omega⟩ hs) (bl_at m c t x0 x1 ⟨j0.val % 8192, by omega⟩ hs) (br_at m c t x0 x1 ⟨j0.val % 8192, by omega⟩ hs) 1152 (by omega) slices_S512x2304_o0_1152_S512x128 768 j1.val (by omega) (by omega) _
  · idx_vars x
    have hx := x0.isLt
    have hb : j0.val / 8192 * 8192 + j0.val % 8192 = t.val * 512 + x0.val := by omega
    have hs : j0.val % 8192 = t.val % 16 * 512 + x0.val := by omega
    have hz : ∀ n, (k0_pay29 (F := Ideal) (iblk m c 0 t) (iblk m c 1 t) (iblk m c 2 t) (iblk m c 3 t) (iblk m c 4 t) (iblk m c 5 t)) (ix2 x0 n) = RZ m c (ix3 ⟨j0.val / 8192, by omega⟩ ⟨j0.val % 8192, by omega⟩ n) :=
      fun n => z_at m c t x0 n ⟨j0.val / 8192, by omega⟩ ⟨j0.val % 8192, by omega⟩ hb
    exact turned_at (k0_pay29 (F := Ideal) (iblk m c 0 t) (iblk m c 1 t) (iblk m c 2 t) (iblk m c 3 t) (iblk m c 4 t) (iblk m c 5 t)) (k0_pay30 (F := Ideal) (iblk m c 0 t) (iblk m c 1 t) (iblk m c 2 t) (iblk m c 3 t) (iblk m c 4 t) (iblk m c 5 t)) (k0_pay31 (F := Ideal) (iblk m c 0 t) (iblk m c 1 t) (iblk m c 2 t) (iblk m c 3 t) (iblk m c 4 t) (iblk m c 5 t)) (k0_pay32 (F := Ideal) (iblk m c 0 t) (iblk m c 1 t) (iblk m c 2 t) (iblk m c 3 t) (iblk m c 4 t) (iblk m c 5 t)) (RZ m c) x0 x1 _ _ hz (bc_at m c t x0 x1 ⟨j0.val % 8192, by omega⟩ hs) (bl_at m c t x0 x1 ⟨j0.val % 8192, by omega⟩ hs) (br_at m c t x0 x1 ⟨j0.val % 8192, by omega⟩ hs) 1024 (by omega) slices_S512x2304_o0_1024_S512x128 768 j1.val (by omega) (by omega) _
  · idx_vars x
    have hx := x0.isLt
    have hb : j0.val / 8192 * 8192 + j0.val % 8192 = t.val * 512 + x0.val := by omega
    have hs : j0.val % 8192 = t.val % 16 * 512 + x0.val := by omega
    have hz : ∀ n, (k0_pay29 (F := Ideal) (iblk m c 0 t) (iblk m c 1 t) (iblk m c 2 t) (iblk m c 3 t) (iblk m c 4 t) (iblk m c 5 t)) (ix2 x0 n) = RZ m c (ix3 ⟨j0.val / 8192, by omega⟩ ⟨j0.val % 8192, by omega⟩ n) :=
      fun n => z_at m c t x0 n ⟨j0.val / 8192, by omega⟩ ⟨j0.val % 8192, by omega⟩ hb
    exact turned_at (k0_pay29 (F := Ideal) (iblk m c 0 t) (iblk m c 1 t) (iblk m c 2 t) (iblk m c 3 t) (iblk m c 4 t) (iblk m c 5 t)) (k0_pay30 (F := Ideal) (iblk m c 0 t) (iblk m c 1 t) (iblk m c 2 t) (iblk m c 3 t) (iblk m c 4 t) (iblk m c 5 t)) (k0_pay31 (F := Ideal) (iblk m c 0 t) (iblk m c 1 t) (iblk m c 2 t) (iblk m c 3 t) (iblk m c 4 t) (iblk m c 5 t)) (k0_pay32 (F := Ideal) (iblk m c 0 t) (iblk m c 1 t) (iblk m c 2 t) (iblk m c 3 t) (iblk m c 4 t) (iblk m c 5 t)) (RZ m c) x0 x1 _ _ hz (bc_at m c t x0 x1 ⟨j0.val % 8192, by omega⟩ hs) (bl_at m c t x0 x1 ⟨j0.val % 8192, by omega⟩ hs) (br_at m c t x0 x1 ⟨j0.val % 8192, by omega⟩ hs) 896 (by omega) slices_S512x2304_o0_896_S512x128 768 j1.val (by omega) (by omega) _
  · idx_vars x
    have hx := x0.isLt
    have hb : j0.val / 8192 * 8192 + j0.val % 8192 = t.val * 512 + x0.val := by omega
    have hs : j0.val % 8192 = t.val % 16 * 512 + x0.val := by omega
    have hz : ∀ n, (k0_pay29 (F := Ideal) (iblk m c 0 t) (iblk m c 1 t) (iblk m c 2 t) (iblk m c 3 t) (iblk m c 4 t) (iblk m c 5 t)) (ix2 x0 n) = RZ m c (ix3 ⟨j0.val / 8192, by omega⟩ ⟨j0.val % 8192, by omega⟩ n) :=
      fun n => z_at m c t x0 n ⟨j0.val / 8192, by omega⟩ ⟨j0.val % 8192, by omega⟩ hb
    exact turned_at (k0_pay29 (F := Ideal) (iblk m c 0 t) (iblk m c 1 t) (iblk m c 2 t) (iblk m c 3 t) (iblk m c 4 t) (iblk m c 5 t)) (k0_pay30 (F := Ideal) (iblk m c 0 t) (iblk m c 1 t) (iblk m c 2 t) (iblk m c 3 t) (iblk m c 4 t) (iblk m c 5 t)) (k0_pay31 (F := Ideal) (iblk m c 0 t) (iblk m c 1 t) (iblk m c 2 t) (iblk m c 3 t) (iblk m c 4 t) (iblk m c 5 t)) (k0_pay32 (F := Ideal) (iblk m c 0 t) (iblk m c 1 t) (iblk m c 2 t) (iblk m c 3 t) (iblk m c 4 t) (iblk m c 5 t)) (RZ m c) x0 x1 _ _ hz (bc_at m c t x0 x1 ⟨j0.val % 8192, by omega⟩ hs) (bl_at m c t x0 x1 ⟨j0.val % 8192, by omega⟩ hs) (br_at m c t x0 x1 ⟨j0.val % 8192, by omega⟩ hs) 768 (by omega) slices_S512x2304_o0_768_S512x128 768 j1.val (by omega) (by omega) _

theorem final8 (c : Dev nD) : (dats m 0 c).arrAt 8 (cfgs 0).N = refQB (RZ m c) refC refN := by
  refine (dats m 0 c).arrAt_eq_of_covers 8 _ (by decide +kernel) fun t _ y => ?_
  blk_simp
  rw [after0_8]
  exact o8_at m c t y _ (by blk_simp [idx t]) (by blk_simp [idx t])

theorem o9_at (c : Dev nD) (t : Fin cfg0.N) (y : S512x1024.Idx) (j : S16384x1024.Idx)
    (hj0 : (j 0 : ℕ) = t.val * 512 + y 0) (hj1 : (j 1 : ℕ) = y 1) :
    out0_9 (F := Ideal) (iblk m c 0 t) (iblk m c 1 t) (iblk m c 2 t) (iblk m c 3 t) (iblk m c 4 t) (iblk m c 5 t) y = refKVB (RZ m c) refC refN j := by
  idx_vars j
  have hj := j0.isLt
  rw [kvb_at]
  unfold out0_9
  canon_tiles x h
  · idx_vars x
    have hx := x0.isLt
    have hb : j0.val / 8192 * 8192 + j0.val % 8192 = t.val * 512 + x0.val := by omega
    have hs : j0.val % 8192 = t.val % 16 * 512 + x0.val := by omega
    have hz : ∀ n, (k0_pay29 (F := Ideal) (iblk m c 0 t) (iblk m c 1 t) (iblk m c 2 t) (iblk m c 3 t) (iblk m c 4 t) (iblk m c 5 t)) (ix2 x0 n) = RZ m c (ix3 ⟨j0.val / 8192, by omega⟩ ⟨j0.val % 8192, by omega⟩ n) :=
      fun n => z_at m c t x0 n ⟨j0.val / 8192, by omega⟩ ⟨j0.val % 8192, by omega⟩ hb
    rw [dif_neg (by omega : ¬ j1.val < 512)]
    exact plain_at (k0_pay29 (F := Ideal) (iblk m c 0 t) (iblk m c 1 t) (iblk m c 2 t) (iblk m c 3 t) (iblk m c 4 t) (iblk m c 5 t)) (RZ m c) x0 x1 _ _ hz 2176 (by omega) slices_S512x2304_o0_2176_S512x128 _ (by dsimp only; omega)
  · idx_vars x
    have hx := x0.isLt
    have hb : j0.val / 8192 * 8192 + j0.val % 8192 = t.val * 512 + x0.val := by omega
    have hs : j0.val % 8192 = t.val % 16 * 512 + x0.val := by omega
    have hz : ∀ n, (k0_pay29 (F := Ideal) (iblk m c 0 t) (iblk m c 1 t) (iblk m c 2 t) (iblk m c 3 t) (iblk m c 4 t) (iblk m c 5 t)) (ix2 x0 n) = RZ m c (ix3 ⟨j0.val / 8192, by omega⟩ ⟨j0.val % 8192, by omega⟩ n) :=
      fun n => z_at m c t x0 n ⟨j0.val / 8192, by omega⟩ ⟨j0.val % 8192, by omega⟩ hb
    rw [dif_neg (by omega : ¬ j1.val < 512)]
    exact plain_at (k0_pay29 (F := Ideal) (iblk m c 0 t) (iblk m c 1 t) (iblk m c 2 t) (iblk m c 3 t) (iblk m c 4 t) (iblk m c 5 t)) (RZ m c) x0 x1 _ _ hz 2048 (by omega) slices_S512x2304_o0_2048_S512x128 _ (by dsimp only; omega)
  · idx_vars x
    have hx := x0.isLt
    have hb : j0.val / 8192 * 8192 + j0.val % 8192 = t.val * 512 + x0.val := by omega
    have hs : j0.val % 8192 = t.val % 16 * 512 + x0.val := by omega
    have hz : ∀ n, (k0_pay29 (F := Ideal) (iblk m c 0 t) (iblk m c 1 t) (iblk m c 2 t) (iblk m c 3 t) (iblk m c 4 t) (iblk m c 5 t)) (ix2 x0 n) = RZ m c (ix3 ⟨j0.val / 8192, by omega⟩ ⟨j0.val % 8192, by omega⟩ n) :=
      fun n => z_at m c t x0 n ⟨j0.val / 8192, by omega⟩ ⟨j0.val % 8192, by omega⟩ hb
    rw [dif_neg (by omega : ¬ j1.val < 512)]
    exact plain_at (k0_pay29 (F := Ideal) (iblk m c 0 t) (iblk m c 1 t) (iblk m c 2 t) (iblk m c 3 t) (iblk m c 4 t) (iblk m c 5 t)) (RZ m c) x0 x1 _ _ hz 1920 (by omega) slices_S512x2304_o0_1920_S512x128 _ (by dsimp only; omega)
  · idx_vars x
    have hx := x0.isLt
    have hb : j0.val / 8192 * 8192 + j0.val % 8192 = t.val * 512 + x0.val := by omega
    have hs : j0.val % 8192 = t.val % 16 * 512 + x0.val := by omega
    have hz : ∀ n, (k0_pay29 (F := Ideal) (iblk m c 0 t) (iblk m c 1 t) (iblk m c 2 t) (iblk m c 3 t) (iblk m c 4 t) (iblk m c 5 t)) (ix2 x0 n) = RZ m c (ix3 ⟨j0.val / 8192, by omega⟩ ⟨j0.val % 8192, by omega⟩ n) :=
      fun n => z_at m c t x0 n ⟨j0.val / 8192, by omega⟩ ⟨j0.val % 8192, by omega⟩ hb
    rw [dif_neg (by omega : ¬ j1.val < 512)]
    exact plain_at (k0_pay29 (F := Ideal) (iblk m c 0 t) (iblk m c 1 t) (iblk m c 2 t) (iblk m c 3 t) (iblk m c 4 t) (iblk m c 5 t)) (RZ m c) x0 x1 _ _ hz 1792 (by omega) slices_S512x2304_o0_1792_S512x128 _ (by dsimp only; omega)
  · idx_vars x
    have hx := x0.isLt
    have hb : j0.val / 8192 * 8192 + j0.val % 8192 = t.val * 512 + x0.val := by omega
    have hs : j0.val % 8192 = t.val % 16 * 512 + x0.val := by omega
    have hz : ∀ n, (k0_pay29 (F := Ideal) (iblk m c 0 t) (iblk m c 1 t) (iblk m c 2 t) (iblk m c 3 t) (iblk m c 4 t) (iblk m c 5 t)) (ix2 x0 n) = RZ m c (ix3 ⟨j0.val / 8192, by omega⟩ ⟨j0.val % 8192, by omega⟩ n) :=
      fun n => z_at m c t x0 n ⟨j0.val / 8192, by omega⟩ ⟨j0.val % 8192, by omega⟩ hb
    rw [dif_pos (by omega : j1.val < 512)]
    exact turned_at (k0_pay29 (F := Ideal) (iblk m c 0 t) (iblk m c 1 t) (iblk m c 2 t) (iblk m c 3 t) (iblk m c 4 t) (iblk m c 5 t)) (k0_pay30 (F := Ideal) (iblk m c 0 t) (iblk m c 1 t) (iblk m c 2 t) (iblk m c 3 t) (iblk m c 4 t) (iblk m c 5 t)) (k0_pay31 (F := Ideal) (iblk m c 0 t) (iblk m c 1 t) (iblk m c 2 t) (iblk m c 3 t) (iblk m c 4 t) (iblk m c 5 t)) (k0_pay32 (F := Ideal) (iblk m c 0 t) (iblk m c 1 t) (iblk m c 2 t) (iblk m c 3 t) (iblk m c 4 t) (iblk m c 5 t)) (RZ m c) x0 x1 _ _ hz (bc_at m c t x0 x1 ⟨j0.val % 8192, by omega⟩ hs) (bl_at m c t x0 x1 ⟨j0.val % 8192, by omega⟩ hs) (br_at m c t x0 x1 ⟨j0.val % 8192, by omega⟩ hs) 1664 (by omega) slices_S512x2304_o0_1664_S512x128 1280 j1.val (by omega) (by omega) _
  · idx_vars x
    have hx := x0.isLt
    have hb : j0.val / 8192 * 8192 + j0.val % 8192 = t.val * 512 + x0.val := by omega
    have hs : j0.val % 8192 = t.val % 16 * 512 + x0.val := by omega
    have hz : ∀ n, (k0_pay29 (F := Ideal) (iblk m c 0 t) (iblk m c 1 t) (iblk m c 2 t) (iblk m c 3 t) (iblk m c 4 t) (iblk m c 5 t)) (ix2 x0 n) = RZ m c (ix3 ⟨j0.val / 8192, by omega⟩ ⟨j0.val % 8192, by omega⟩ n) :=
      fun n => z_at m c t x0 n ⟨j0.val / 8192, by omega⟩ ⟨j0.val % 8192, by omega⟩ hb
    rw [dif_pos (by omega : j1.val < 512)]
    exact turned_at (k0_pay29 (F := Ideal) (iblk m c 0 t) (iblk m c 1 t) (iblk m c 2 t) (iblk m c 3 t) (iblk m c 4 t) (iblk m c 5 t)) (k0_pay30 (F := Ideal) (iblk m c 0 t) (iblk m c 1 t) (iblk m c 2 t) (iblk m c 3 t) (iblk m c 4 t) (iblk m c 5 t)) (k0_pay31 (F := Ideal) (iblk m c 0 t) (iblk m c 1 t) (iblk m c 2 t) (iblk m c 3 t) (iblk m c 4 t) (iblk m c 5 t)) (k0_pay32 (F := Ideal) (iblk m c 0 t) (iblk m c 1 t) (iblk m c 2 t) (iblk m c 3 t) (iblk m c 4 t) (iblk m c 5 t)) (RZ m c) x0 x1 _ _ hz (bc_at m c t x0 x1 ⟨j0.val % 8192, by omega⟩ hs) (bl_at m c t x0 x1 ⟨j0.val % 8192, by omega⟩ hs) (br_at m c t x0 x1 ⟨j0.val % 8192, by omega⟩ hs) 1536 (by omega) slices_S512x2304_o0_1536_S512x128 1280 j1.val (by omega) (by omega) _
  · idx_vars x
    have hx := x0.isLt
    have hb : j0.val / 8192 * 8192 + j0.val % 8192 = t.val * 512 + x0.val := by omega
    have hs : j0.val % 8192 = t.val % 16 * 512 + x0.val := by omega
    have hz : ∀ n, (k0_pay29 (F := Ideal) (iblk m c 0 t) (iblk m c 1 t) (iblk m c 2 t) (iblk m c 3 t) (iblk m c 4 t) (iblk m c 5 t)) (ix2 x0 n) = RZ m c (ix3 ⟨j0.val / 8192, by omega⟩ ⟨j0.val % 8192, by omega⟩ n) :=
      fun n => z_at m c t x0 n ⟨j0.val / 8192, by omega⟩ ⟨j0.val % 8192, by omega⟩ hb
    rw [dif_pos (by omega : j1.val < 512)]
    exact turned_at (k0_pay29 (F := Ideal) (iblk m c 0 t) (iblk m c 1 t) (iblk m c 2 t) (iblk m c 3 t) (iblk m c 4 t) (iblk m c 5 t)) (k0_pay30 (F := Ideal) (iblk m c 0 t) (iblk m c 1 t) (iblk m c 2 t) (iblk m c 3 t) (iblk m c 4 t) (iblk m c 5 t)) (k0_pay31 (F := Ideal) (iblk m c 0 t) (iblk m c 1 t) (iblk m c 2 t) (iblk m c 3 t) (iblk m c 4 t) (iblk m c 5 t)) (k0_pay32 (F := Ideal) (iblk m c 0 t) (iblk m c 1 t) (iblk m c 2 t) (iblk m c 3 t) (iblk m c 4 t) (iblk m c 5 t)) (RZ m c) x0 x1 _ _ hz (bc_at m c t x0 x1 ⟨j0.val % 8192, by omega⟩ hs) (bl_at m c t x0 x1 ⟨j0.val % 8192, by omega⟩ hs) (br_at m c t x0 x1 ⟨j0.val % 8192, by omega⟩ hs) 1408 (by omega) slices_S512x2304_o0_1408_S512x128 1280 j1.val (by omega) (by omega) _
  · idx_vars x
    have hx := x0.isLt
    have hb : j0.val / 8192 * 8192 + j0.val % 8192 = t.val * 512 + x0.val := by omega
    have hs : j0.val % 8192 = t.val % 16 * 512 + x0.val := by omega
    have hz : ∀ n, (k0_pay29 (F := Ideal) (iblk m c 0 t) (iblk m c 1 t) (iblk m c 2 t) (iblk m c 3 t) (iblk m c 4 t) (iblk m c 5 t)) (ix2 x0 n) = RZ m c (ix3 ⟨j0.val / 8192, by omega⟩ ⟨j0.val % 8192, by omega⟩ n) :=
      fun n => z_at m c t x0 n ⟨j0.val / 8192, by omega⟩ ⟨j0.val % 8192, by omega⟩ hb
    rw [dif_pos (by omega : j1.val < 512)]
    exact turned_at (k0_pay29 (F := Ideal) (iblk m c 0 t) (iblk m c 1 t) (iblk m c 2 t) (iblk m c 3 t) (iblk m c 4 t) (iblk m c 5 t)) (k0_pay30 (F := Ideal) (iblk m c 0 t) (iblk m c 1 t) (iblk m c 2 t) (iblk m c 3 t) (iblk m c 4 t) (iblk m c 5 t)) (k0_pay31 (F := Ideal) (iblk m c 0 t) (iblk m c 1 t) (iblk m c 2 t) (iblk m c 3 t) (iblk m c 4 t) (iblk m c 5 t)) (k0_pay32 (F := Ideal) (iblk m c 0 t) (iblk m c 1 t) (iblk m c 2 t) (iblk m c 3 t) (iblk m c 4 t) (iblk m c 5 t)) (RZ m c) x0 x1 _ _ hz (bc_at m c t x0 x1 ⟨j0.val % 8192, by omega⟩ hs) (bl_at m c t x0 x1 ⟨j0.val % 8192, by omega⟩ hs) (br_at m c t x0 x1 ⟨j0.val % 8192, by omega⟩ hs) 1280 (by omega) slices_S512x2304_o0_1280_S512x128 1280 j1.val (by omega) (by omega) _

theorem final9 (c : Dev nD) : (dats m 0 c).arrAt 9 (cfgs 0).N = refKVB (RZ m c) refC refN := by
  refine (dats m 0 c).arrAt_eq_of_covers 9 _ (by decide +kernel) fun t _ y => ?_
  blk_simp
  rw [after0_9]
  exact o9_at m c t y _ (by blk_simp [idx t]) (by blk_simp [idx t])

end Cert.ProjIdeal.Val

end
-- ==== Proof.ProjClaim.lean ====
module

public import proofs.«01_k».proof.Defs
public import proofs.«01_k».proof.Proof.ProjValue
public import proofs.«01_k».proof.Proof.Gen.ProjIdeal.Value
public import proofs.«01_k».proof.Proof.Gen.ProjRefIdeal.Run
public import Idealize.ShloMosaic.Lib.Claim

/-! The first projection against its reference: the claim. -/

@[expose] public section

set_option maxRecDepth 16384

noncomputable section

namespace Cert.ProjRefIdeal.Val

open Cert.ProjRefIdeal Cert.ProjRefIdeal.Gen Idealize.ShloMosaic Idealize.ShloMosaic.TcCoe Idealize.SL.Sem Idealize.ShloMosaic.StableHlo

variable (m : (ℓ : Loc nD τ sig) → Buf (Elt Ideal) ℓ) (c : Dev nD)

theorem res_refQA_eq : Cert.ProjRefIdeal.Value.res_main_v130 m c
    = refQA (refZ (m ((c.tc : Thread nD τ).loc main_arg0)) (m ((c.tc : Thread nD τ).loc main_arg1)) (m ((c.tc : Thread nD τ).loc main_arg2))) refC refN := rfl

theorem res_refKVA_eq : Cert.ProjRefIdeal.Value.res_main_v133 m c
    = refKVA (refZ (m ((c.tc : Thread nD τ).loc main_arg0)) (m ((c.tc : Thread nD τ).loc main_arg1)) (m ((c.tc : Thread nD τ).loc main_arg2))) refC refN := rfl

theorem res_refQB_eq : Cert.ProjRefIdeal.Value.res_main_v134 m c
    = refQB (refZ (m ((c.tc : Thread nD τ).loc main_arg0)) (m ((c.tc : Thread nD τ).loc main_arg1)) (m ((c.tc : Thread nD τ).loc main_arg2))) refC refN := rfl

theorem res_refKVB_eq : Cert.ProjRefIdeal.Value.res_main_v137 m c
    = refKVB (refZ (m ((c.tc : Thread nD τ).loc main_arg0)) (m ((c.tc : Thread nD τ).loc main_arg1)) (m ((c.tc : Thread nD τ).loc main_arg2))) refC refN := rfl

end Cert.ProjRefIdeal.Val

namespace Cert.Proof

open Idealize.ShloMosaic Idealize.SL.Sem

open Cert.ProjRefIdeal.Val in
theorem refZ_congr {X Y : FVec Ideal Cert.ProjRefIdeal.S2x8192x1024 .f32} {G K : FVec Ideal Cert.ProjRefIdeal.S1x1024 .f32}
    {W U : FVec Ideal Cert.ProjRefIdeal.S1x1024x2304 .f32} (h0 : X = Y) (h1 : G = K) (h2 : W = U) : refZ X G W = refZ Y K U := by
  subst h0 h1 h2; rfl

open Cert.ProjRefIdeal.Val in
/-- The input projection's four results are the reference's. -/
theorem algebraic_proj : @Cert.algebraic_ProjIdeal_ProjRefIdeal Cert.ProjIdeal.Gen.facts Cert.ProjRefIdeal.Gen.facts := by
  intro m g m' g' _ hag
  refine ⟨fun c => refQA (Cert.ProjIdeal.Val.RZ m c) refC refN, fun c => refKVA (Cert.ProjIdeal.Val.RZ m c) refC refN,
    fun c => refQB (Cert.ProjIdeal.Val.RZ m c) refC refN, fun c => refKVB (Cert.ProjIdeal.Val.RZ m c) refC refN, ?_, ?_⟩
  · refine (θ_run _ _ _).mono (fun r h c => ?_) (Cert.ProjIdeal.Value.run_blocks m g)
    obtain ⟨h6, h7, h8, h9, hr⟩ := h c
    exact ⟨h6.trans (Cert.ProjIdeal.Val.final6 m c), h7.trans (Cert.ProjIdeal.Val.final7 m c),
      h8.trans (Cert.ProjIdeal.Val.final8 m c), h9.trans (Cert.ProjIdeal.Val.final9 m c), hr⟩
  · refine (θ_run _ _ _).mono (fun r h c => ?_) (Cert.ProjRefIdeal.Value.run m' g')
    obtain ⟨h0, h1, h2, h3, hr⟩ := h c
    obtain ⟨a0, a1, a2⟩ := hag c
    have hz := refZ_congr a0 a1 a2
    exact ⟨h0.trans ((res_refQA_eq m' c).trans (congrArg (fun z => refQA z refC refN) hz)),
      h1.trans ((res_refKVA_eq m' c).trans (congrArg (fun z => refKVA z refC refN) hz)),
      h2.trans ((res_refQB_eq m' c).trans (congrArg (fun z => refQB z refC refN) hz)),
      h3.trans ((res_refKVB_eq m' c).trans (congrArg (fun z => refKVB z refC refN) hz)), hr⟩

/-- The reference's frame: host operations only, no semaphore. -/
theorem frame_projref : @Cert.quiescent_ProjRefIdeal Cert.ProjRefIdeal.Gen.facts := fun m g _ =>
  (θ_run _ _ _).mono (fun r h => ⟨fun c => (h c).2.2.2.2, sem_eq_zero_of_no_sems (by decide) r.2⟩)
    (Cert.ProjRefIdeal.Value.run m g)

end Cert.Proof

end
-- ==== Proof.lean ====
module

public import proofs.«01_k».proof.Defs
public import proofs.«01_k».proof.Proof.KFrame
public import proofs.«01_k».proof.Proof.BFrame
public import proofs.«01_k».proof.Proof.Gen.Kernel
public import proofs.«01_k».proof.Proof.Gen.KernelIdeal
public import proofs.«01_k».proof.Proof.Gen.Mix
public import proofs.«01_k».proof.Proof.Gen.MixIdeal
public import proofs.«01_k».proof.Proof.Gen.MixRefIdeal
public import proofs.«01_k».proof.Proof.Gen.Proj
public import proofs.«01_k».proof.Proof.Gen.ProjIdeal
public import proofs.«01_k».proof.Proof.Gen.ProjRefIdeal
public import proofs.«01_k».proof.Proof.Gen.Mix.Frame
public import proofs.«01_k».proof.Proof.Gen.MixIdeal.Frame
public import proofs.«01_k».proof.Proof.Gen.Proj.Frame
public import proofs.«01_k».proof.Proof.Gen.ProjIdeal.Frame
public import proofs.«01_k».proof.Proof.Gen.ProjIdeal.Value
public import proofs.«01_k».proof.Proof.Gen.AttnRefIdeal.Run
public import proofs.«01_k».proof.Proof.AttnClaim
public import proofs.«01_k».proof.Proof.Gen.Pre_finite
public import proofs.«01_k».proof.Proof.MixClaim
public import proofs.«01_k».proof.Proof.Gen.ProjRefIdeal.Run
public import proofs.«01_k».proof.Proof.ProjClaim
public import Idealize.ShloMosaic.Adequacy
public import Idealize.ShloMosaic.Init

@[expose] public section

noncomputable section

namespace Cert.Proof

open Idealize.ShloMosaic Idealize.SL.Sem Cert.Kernel

/-- Every claim, in the order the statement lists them. -/
theorem claim : Cert.Claim := ⟨Cert.Kernel.Gen.facts, Cert.KernelIdeal.Gen.facts, Cert.AttnRefIdeal.Gen.facts, Cert.Mix.Gen.facts, Cert.MixIdeal.Gen.facts, Cert.MixRefIdeal.Gen.facts, Cert.Proj.Gen.facts, Cert.ProjIdeal.Gen.facts, Cert.ProjRefIdeal.Gen.facts, Cert.Pre_finite.Gen.facts,
    fun m g _ => Cert.Kernel.Attn.frame m g,
    fun m g _ => Cert.KernelIdeal.Attn.frame m g,
    fun m g _ => Cert.KernelIdeal.Attn.frame m g,
    frame_attnref,
    fun m g _ => frame_attnref m g trivial,
    fun m g _ => Cert.Mix.Gen.frame m g,
    fun m g _ => Cert.MixIdeal.Gen.frame m g,
    frame_mixref,
    fun m g _ => Cert.Proj.Gen.frame m g,
    fun m g _ => Cert.ProjIdeal.Gen.frame m g,
    frame_projref,
    preserves_attn,
    algebraic_attn,
    trivial,
    algebraic_mix,
    trivial,
    algebraic_proj⟩

end Cert.Proof

end
